-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Qlat (m : (ℓ : Loc Cert.Qlat.nD Cert.Qlat.τ Cert.Qlat.sig) → Buf (Elt Bits) ℓ) : Prop :=
  True

def Pre_QlatIdeal (m : (ℓ : Loc Cert.QlatIdeal.nD Cert.QlatIdeal.τ Cert.QlatIdeal.sig) → Buf (Elt Ideal) ℓ) : Prop :=
  True

def Pre_QlatRefIdeal (m : (ℓ : Loc Cert.QlatRefIdeal.nD Cert.QlatRefIdeal.τ Cert.QlatRefIdeal.sig) → Buf (Elt Ideal) ℓ) : Prop :=
  True

def Pre_Idx (m : (ℓ : Loc Cert.Idx.nD Cert.Idx.τ Cert.Idx.sig) → Buf (Elt Bits) ℓ) : Prop :=
  True

def Pre_IdxIdeal (m : (ℓ : Loc Cert.IdxIdeal.nD Cert.IdxIdeal.τ Cert.IdxIdeal.sig) → Buf (Elt Ideal) ℓ) : Prop :=
  True

def Pre_IdxRefIdeal (m : (ℓ : Loc Cert.IdxRefIdeal.nD Cert.IdxRefIdeal.τ Cert.IdxRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojRefIdeal (m : (ℓ : Loc Cert.OprojRefIdeal.nD Cert.OprojRefIdeal.τ Cert.OprojRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9)
      ∧ r.2.mem ((c.tc : Thread Cert.Ffn.nD Cert.Ffn.τ).loc Cert.Ffn.main_arg10) = m ((c.tc : Thread Cert.Ffn.nD Cert.Ffn.τ).loc Cert.Ffn.main_arg10))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9)
      ∧ r.2.mem ((c.tc : Thread Cert.FfnRefIdeal.nD Cert.FfnRefIdeal.τ).loc Cert.FfnRefIdeal.main_arg10) = m ((c.tc : Thread Cert.FfnRefIdeal.nD Cert.FfnRefIdeal.τ).loc Cert.FfnRefIdeal.main_arg10))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_Qlat [hQlat : Cert.Qlat.Facts] : Prop :=
  ∀ (m : (ℓ : Loc Cert.Qlat.nD Cert.Qlat.τ Cert.Qlat.sig) → Buf (Elt Bits) ℓ) (g : Dev Cert.Qlat.nD → PrngReg), Pre_Qlat m →
    θ_run (Cert.Qlat.defs (F := Bits)) (onTc (τ := Cert.Qlat.τ) (Cert.Qlat.main (F := Bits))) ⟨m, fun _ => 0, g⟩ (fun r => (∀ c : Dev Cert.Qlat.nD,
      r.2.mem ((c.tc : Thread Cert.Qlat.nD Cert.Qlat.τ).loc Cert.Qlat.main_arg0) = m ((c.tc : Thread Cert.Qlat.nD Cert.Qlat.τ).loc Cert.Qlat.main_arg0)
      ∧ r.2.mem ((c.tc : Thread Cert.Qlat.nD Cert.Qlat.τ).loc Cert.Qlat.main_arg1) = m ((c.tc : Thread Cert.Qlat.nD Cert.Qlat.τ).loc Cert.Qlat.main_arg1)
      ∧ r.2.mem ((c.tc : Thread Cert.Qlat.nD Cert.Qlat.τ).loc Cert.Qlat.main_arg2) = m ((c.tc : Thread Cert.Qlat.nD Cert.Qlat.τ).loc Cert.Qlat.main_arg2))
      ∧ r.2.sem = fun _ => 0)

def quiescent_QlatIdeal [hQlatIdeal : Cert.QlatIdeal.Facts] : Prop :=
  ∀ (m : (ℓ : Loc Cert.QlatIdeal.nD Cert.QlatIdeal.τ Cert.QlatIdeal.sig) → Buf (Elt Ideal) ℓ) (g : Dev Cert.QlatIdeal.nD → PrngReg), Pre_QlatIdeal m →
    θ_run (Cert.QlatIdeal.defs (F := Ideal)) (onTc (τ := Cert.QlatIdeal.τ) (Cert.QlatIdeal.main (F := Ideal))) ⟨m, fun _ => 0, g⟩ (fun r => (∀ c : Dev Cert.QlatIdeal.nD,
      r.2.mem ((c.tc : Thread Cert.QlatIdeal.nD Cert.QlatIdeal.τ).loc Cert.QlatIdeal.main_arg0) = m ((c.tc : Thread Cert.QlatIdeal.nD Cert.QlatIdeal.τ).loc Cert.QlatIdeal.main_arg0)
      ∧ r.2.mem ((c.tc : Thread Cert.QlatIdeal.nD Cert.QlatIdeal.τ).loc Cert.QlatIdeal.main_arg1) = m ((c.tc : Thread Cert.QlatIdeal.nD Cert.QlatIdeal.τ).loc Cert.QlatIdeal.main_arg1)
      ∧ r.2.mem ((c.tc : Thread Cert.QlatIdeal.nD Cert.QlatIdeal.τ).loc Cert.QlatIdeal.main_arg2) = m ((c.tc : Thread Cert.QlatIdeal.nD Cert.QlatIdeal.τ).loc Cert.QlatIdeal.main_arg2))
      ∧ r.2.sem = fun _ => 0)

def quiescent_QlatRefIdeal [hQlatRefIdeal : Cert.QlatRefIdeal.Facts] : Prop :=
  ∀ (m : (ℓ : Loc Cert.QlatRefIdeal.nD Cert.QlatRefIdeal.τ Cert.QlatRefIdeal.sig) → Buf (Elt Ideal) ℓ) (g : Dev Cert.QlatRefIdeal.nD → PrngReg), Pre_QlatRefIdeal m →
    θ_run (Cert.QlatRefIdeal.defs (F := Ideal)) (onTc (τ := Cert.QlatRefIdeal.τ) (Cert.QlatRefIdeal.main (F := Ideal))) ⟨m, fun _ => 0, g⟩ (fun r => (∀ c : Dev Cert.QlatRefIdeal.nD,
      r.2.mem ((c.tc : Thread Cert.QlatRefIdeal.nD Cert.QlatRefIdeal.τ).loc Cert.QlatRefIdeal.main_arg0) = m ((c.tc : Thread Cert.QlatRefIdeal.nD Cert.QlatRefIdeal.τ).loc Cert.QlatRefIdeal.main_arg0)
      ∧ r.2.mem ((c.tc : Thread Cert.QlatRefIdeal.nD Cert.QlatRefIdeal.τ).loc Cert.QlatRefIdeal.main_arg1) = m ((c.tc : Thread Cert.QlatRefIdeal.nD Cert.QlatRefIdeal.τ).loc Cert.QlatRefIdeal.main_arg1)
      ∧ r.2.mem ((c.tc : Thread Cert.QlatRefIdeal.nD Cert.QlatRefIdeal.τ).loc Cert.QlatRefIdeal.main_arg2) = m ((c.tc : Thread Cert.QlatRefIdeal.nD Cert.QlatRefIdeal.τ).loc Cert.QlatRefIdeal.main_arg2))
      ∧ r.2.sem = fun _ => 0)

def quiescent_Idx [hIdx : Cert.Idx.Facts] : Prop :=
  ∀ (m : (ℓ : Loc Cert.Idx.nD Cert.Idx.τ Cert.Idx.sig) → Buf (Elt Bits) ℓ) (g : Dev Cert.Idx.nD → PrngReg), Pre_Idx m →
    θ_run (Cert.Idx.defs (F := Bits)) (onTc (τ := Cert.Idx.τ) (Cert.Idx.main (F := Bits))) ⟨m, fun _ => 0, g⟩ (fun r => (∀ c : Dev Cert.Idx.nD,
      r.2.mem ((c.tc : Thread Cert.Idx.nD Cert.Idx.τ).loc Cert.Idx.main_arg0) = m ((c.tc : Thread Cert.Idx.nD Cert.Idx.τ).loc Cert.Idx.main_arg0)
      ∧ r.2.mem ((c.tc : Thread Cert.Idx.nD Cert.Idx.τ).loc Cert.Idx.main_arg1) = m ((c.tc : Thread Cert.Idx.nD Cert.Idx.τ).loc Cert.Idx.main_arg1)
      ∧ r.2.mem ((c.tc : Thread Cert.Idx.nD Cert.Idx.τ).loc Cert.Idx.main_arg2) = m ((c.tc : Thread Cert.Idx.nD Cert.Idx.τ).loc Cert.Idx.main_arg2))
      ∧ r.2.sem = fun _ => 0)

def quiescent_IdxIdeal [hIdxIdeal : Cert.IdxIdeal.Facts] : Prop :=
  ∀ (m : (ℓ : Loc Cert.IdxIdeal.nD Cert.IdxIdeal.τ Cert.IdxIdeal.sig) → Buf (Elt Ideal) ℓ) (g : Dev Cert.IdxIdeal.nD → PrngReg), Pre_IdxIdeal m →
    θ_run (Cert.IdxIdeal.defs (F := Ideal)) (onTc (τ := Cert.IdxIdeal.τ) (Cert.IdxIdeal.main (F := Ideal))) ⟨m, fun _ => 0, g⟩ (fun r => (∀ c : Dev Cert.IdxIdeal.nD,
      r.2.mem ((c.tc : Thread Cert.IdxIdeal.nD Cert.IdxIdeal.τ).loc Cert.IdxIdeal.main_arg0) = m ((c.tc : Thread Cert.IdxIdeal.nD Cert.IdxIdeal.τ).loc Cert.IdxIdeal.main_arg0)
      ∧ r.2.mem ((c.tc : Thread Cert.IdxIdeal.nD Cert.IdxIdeal.τ).loc Cert.IdxIdeal.main_arg1) = m ((c.tc : Thread Cert.IdxIdeal.nD Cert.IdxIdeal.τ).loc Cert.IdxIdeal.main_arg1)
      ∧ r.2.mem ((c.tc : Thread Cert.IdxIdeal.nD Cert.IdxIdeal.τ).loc Cert.IdxIdeal.main_arg2) = m ((c.tc : Thread Cert.IdxIdeal.nD Cert.IdxIdeal.τ).loc Cert.IdxIdeal.main_arg2))
      ∧ r.2.sem = fun _ => 0)

def quiescent_IdxRefIdeal [hIdxRefIdeal : Cert.IdxRefIdeal.Facts] : Prop :=
  ∀ (m : (ℓ : Loc Cert.IdxRefIdeal.nD Cert.IdxRefIdeal.τ Cert.IdxRefIdeal.sig) → Buf (Elt Ideal) ℓ) (g : Dev Cert.IdxRefIdeal.nD → PrngReg), Pre_IdxRefIdeal m →
    θ_run (Cert.IdxRefIdeal.defs (F := Ideal)) (onTc (τ := Cert.IdxRefIdeal.τ) (Cert.IdxRefIdeal.main (F := Ideal))) ⟨m, fun _ => 0, g⟩ (fun r => (∀ c : Dev Cert.IdxRefIdeal.nD,
      r.2.mem ((c.tc : Thread Cert.IdxRefIdeal.nD Cert.IdxRefIdeal.τ).loc Cert.IdxRefIdeal.main_arg0) = m ((c.tc : Thread Cert.IdxRefIdeal.nD Cert.IdxRefIdeal.τ).loc Cert.IdxRefIdeal.main_arg0)
      ∧ r.2.mem ((c.tc : Thread Cert.IdxRefIdeal.nD Cert.IdxRefIdeal.τ).loc Cert.IdxRefIdeal.main_arg1) = m ((c.tc : Thread Cert.IdxRefIdeal.nD Cert.IdxRefIdeal.τ).loc Cert.IdxRefIdeal.main_arg1)
      ∧ r.2.mem ((c.tc : Thread Cert.IdxRefIdeal.nD Cert.IdxRefIdeal.τ).loc Cert.IdxRefIdeal.main_arg2) = m ((c.tc : Thread Cert.IdxRefIdeal.nD Cert.IdxRefIdeal.τ).loc Cert.IdxRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3)
      ∧ r.2.mem ((c.tc : Thread Cert.Oproj.nD Cert.Oproj.τ).loc Cert.Oproj.main_arg4) = m ((c.tc : Thread Cert.Oproj.nD Cert.Oproj.τ).loc Cert.Oproj.main_arg4))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4))
      ∧ r.2.sem = fun _ => 0)

def quiescent_OprojRefIdeal [hOprojRefIdeal : Cert.OprojRefIdeal.Facts] : Prop :=
  ∀ (m : (ℓ : Loc Cert.OprojRefIdeal.nD Cert.OprojRefIdeal.τ Cert.OprojRefIdeal.sig) → Buf (Elt Ideal) ℓ) (g : Dev Cert.OprojRefIdeal.nD → PrngReg), Pre_OprojRefIdeal m →
    θ_run (Cert.OprojRefIdeal.defs (F := Ideal)) (onTc (τ := Cert.OprojRefIdeal.τ) (Cert.OprojRefIdeal.main (F := Ideal))) ⟨m, fun _ => 0, g⟩ (fun r => (∀ c : Dev Cert.OprojRefIdeal.nD,
      r.2.mem ((c.tc : Thread Cert.OprojRefIdeal.nD Cert.OprojRefIdeal.τ).loc Cert.OprojRefIdeal.main_arg0) = m ((c.tc : Thread Cert.OprojRefIdeal.nD Cert.OprojRefIdeal.τ).loc Cert.OprojRefIdeal.main_arg0)
      ∧ r.2.mem ((c.tc : Thread Cert.OprojRefIdeal.nD Cert.OprojRefIdeal.τ).loc Cert.OprojRefIdeal.main_arg1) = m ((c.tc : Thread Cert.OprojRefIdeal.nD Cert.OprojRefIdeal.τ).loc Cert.OprojRefIdeal.main_arg1)
      ∧ r.2.mem ((c.tc : Thread Cert.OprojRefIdeal.nD Cert.OprojRefIdeal.τ).loc Cert.OprojRefIdeal.main_arg2) = m ((c.tc : Thread Cert.OprojRefIdeal.nD Cert.OprojRefIdeal.τ).loc Cert.OprojRefIdeal.main_arg2)
      ∧ r.2.mem ((c.tc : Thread Cert.OprojRefIdeal.nD Cert.OprojRefIdeal.τ).loc Cert.OprojRefIdeal.main_arg3) = m ((c.tc : Thread Cert.OprojRefIdeal.nD Cert.OprojRefIdeal.τ).loc Cert.OprojRefIdeal.main_arg3)
      ∧ r.2.mem ((c.tc : Thread Cert.OprojRefIdeal.nD Cert.OprojRefIdeal.τ).loc Cert.OprojRefIdeal.main_arg4) = m ((c.tc : Thread Cert.OprojRefIdeal.nD Cert.OprojRefIdeal.τ).loc Cert.OprojRefIdeal.main_arg4))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)
      ∧ m' ((c.tc : Thread Cert.FfnRefIdeal.nD Cert.FfnRefIdeal.τ).loc Cert.FfnRefIdeal.main_arg10) = m ((c.tc : Thread Cert.FfnIdeal.nD Cert.FfnIdeal.τ).loc Cert.FfnIdeal.main_arg10)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
          ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v68) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9)
          ∧ r.2.mem ((c.tc : Thread Cert.FfnRefIdeal.nD Cert.FfnRefIdeal.τ).loc Cert.FfnRefIdeal.main_arg10) = m' ((c.tc : Thread Cert.FfnRefIdeal.nD Cert.FfnRefIdeal.τ).loc Cert.FfnRefIdeal.main_arg10))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v1_0)) (v1 : (c : Dev Cert.ConvIdeal.nD) → Buf (Elt Ideal) ((c.tc : Thread Cert.ConvIdeal.nD Cert.ConvIdeal.τ).loc Cert.ConvIdeal.main_v1_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v1_0) = v0 c
          ∧ r.2.mem ((c.tc : Thread Cert.ConvIdeal.nD Cert.ConvIdeal.τ).loc Cert.ConvIdeal.main_v1_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v29) = v0 c
          ∧ r.2.mem ((c.tc : Thread Cert.ConvRefIdeal.nD Cert.ConvRefIdeal.τ).loc Cert.ConvRefIdeal.main_v30) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def preserves_Qlat_QlatIdeal : Prop :=
  True

def algebraic_QlatIdeal_QlatRefIdeal [hQlatIdeal : Cert.QlatIdeal.Facts] [hQlatRefIdeal : Cert.QlatRefIdeal.Facts] : Prop :=
  ∀ (m : (ℓ : Loc Cert.QlatIdeal.nD Cert.QlatIdeal.τ Cert.QlatIdeal.sig) → Buf (Elt Ideal) ℓ) (g : Dev Cert.QlatIdeal.nD → PrngReg)
    (m' : (ℓ : Loc Cert.QlatRefIdeal.nD Cert.QlatRefIdeal.τ Cert.QlatRefIdeal.sig) → Buf (Elt Ideal) ℓ) (g' : Dev Cert.QlatRefIdeal.nD → PrngReg), Pre_QlatIdeal m →
    (∀ c : Dev Cert.QlatIdeal.nD,
      m' ((c.tc : Thread Cert.QlatRefIdeal.nD Cert.QlatRefIdeal.τ).loc Cert.QlatRefIdeal.main_arg0) = m ((c.tc : Thread Cert.QlatIdeal.nD Cert.QlatIdeal.τ).loc Cert.QlatIdeal.main_arg0)
      ∧ m' ((c.tc : Thread Cert.QlatRefIdeal.nD Cert.QlatRefIdeal.τ).loc Cert.QlatRefIdeal.main_arg1) = m ((c.tc : Thread Cert.QlatIdeal.nD Cert.QlatIdeal.τ).loc Cert.QlatIdeal.main_arg1)
      ∧ m' ((c.tc : Thread Cert.QlatRefIdeal.nD Cert.QlatRefIdeal.τ).loc Cert.QlatRefIdeal.main_arg2) = m ((c.tc : Thread Cert.QlatIdeal.nD Cert.QlatIdeal.τ).loc Cert.QlatIdeal.main_arg2)) →
    ∃ (v0 : (c : Dev Cert.QlatIdeal.nD) → Buf (Elt Ideal) ((c.tc : Thread Cert.QlatIdeal.nD Cert.QlatIdeal.τ).loc Cert.QlatIdeal.main_v1_0)) (v1 : (c : Dev Cert.QlatIdeal.nD) → Buf (Elt Ideal) ((c.tc : Thread Cert.QlatIdeal.nD Cert.QlatIdeal.τ).loc Cert.QlatIdeal.main_v1_1)),
      θ_run (Cert.QlatIdeal.defs (F := Ideal)) (onTc (τ := Cert.QlatIdeal.τ) (Cert.QlatIdeal.main (F := Ideal))) ⟨m, fun _ => 0, g⟩ (fun r => ∀ c : Dev Cert.QlatIdeal.nD,
          r.2.mem ((c.tc : Thread Cert.QlatIdeal.nD Cert.QlatIdeal.τ).loc Cert.QlatIdeal.main_v1_0) = v0 c
          ∧ r.2.mem ((c.tc : Thread Cert.QlatIdeal.nD Cert.QlatIdeal.τ).loc Cert.QlatIdeal.main_v1_1) = v1 c
          ∧ r.2.mem ((c.tc : Thread Cert.QlatIdeal.nD Cert.QlatIdeal.τ).loc Cert.QlatIdeal.main_arg0) = m ((c.tc : Thread Cert.QlatIdeal.nD Cert.QlatIdeal.τ).loc Cert.QlatIdeal.main_arg0)
          ∧ r.2.mem ((c.tc : Thread Cert.QlatIdeal.nD Cert.QlatIdeal.τ).loc Cert.QlatIdeal.main_arg1) = m ((c.tc : Thread Cert.QlatIdeal.nD Cert.QlatIdeal.τ).loc Cert.QlatIdeal.main_arg1)
          ∧ r.2.mem ((c.tc : Thread Cert.QlatIdeal.nD Cert.QlatIdeal.τ).loc Cert.QlatIdeal.main_arg2) = m ((c.tc : Thread Cert.QlatIdeal.nD Cert.QlatIdeal.τ).loc Cert.QlatIdeal.main_arg2))
      ∧ θ_run (Cert.QlatRefIdeal.defs (F := Ideal)) (onTc (τ := Cert.QlatRefIdeal.τ) (Cert.QlatRefIdeal.main (F := Ideal))) ⟨m', fun _ => 0, g'⟩ (fun r => ∀ c : Dev Cert.QlatRefIdeal.nD,
          r.2.mem ((c.tc : Thread Cert.QlatRefIdeal.nD Cert.QlatRefIdeal.τ).loc Cert.QlatRefIdeal.main_v7) = v0 c
          ∧ r.2.mem ((c.tc : Thread Cert.QlatRefIdeal.nD Cert.QlatRefIdeal.τ).loc Cert.QlatRefIdeal.main_v8) = v1 c
          ∧ r.2.mem ((c.tc : Thread Cert.QlatRefIdeal.nD Cert.QlatRefIdeal.τ).loc Cert.QlatRefIdeal.main_arg0) = m' ((c.tc : Thread Cert.QlatRefIdeal.nD Cert.QlatRefIdeal.τ).loc Cert.QlatRefIdeal.main_arg0)
          ∧ r.2.mem ((c.tc : Thread Cert.QlatRefIdeal.nD Cert.QlatRefIdeal.τ).loc Cert.QlatRefIdeal.main_arg1) = m' ((c.tc : Thread Cert.QlatRefIdeal.nD Cert.QlatRefIdeal.τ).loc Cert.QlatRefIdeal.main_arg1)
          ∧ r.2.mem ((c.tc : Thread Cert.QlatRefIdeal.nD Cert.QlatRefIdeal.τ).loc Cert.QlatRefIdeal.main_arg2) = m' ((c.tc : Thread Cert.QlatRefIdeal.nD Cert.QlatRefIdeal.τ).loc Cert.QlatRefIdeal.main_arg2))

def preserves_Idx_IdxIdeal : Prop :=
  True

def algebraic_IdxIdeal_IdxRefIdeal [hIdxIdeal : Cert.IdxIdeal.Facts] [hIdxRefIdeal : Cert.IdxRefIdeal.Facts] : Prop :=
  ∀ (m : (ℓ : Loc Cert.IdxIdeal.nD Cert.IdxIdeal.τ Cert.IdxIdeal.sig) → Buf (Elt Ideal) ℓ) (g : Dev Cert.IdxIdeal.nD → PrngReg)
    (m' : (ℓ : Loc Cert.IdxRefIdeal.nD Cert.IdxRefIdeal.τ Cert.IdxRefIdeal.sig) → Buf (Elt Ideal) ℓ) (g' : Dev Cert.IdxRefIdeal.nD → PrngReg), Pre_IdxIdeal m →
    (∀ c : Dev Cert.IdxIdeal.nD,
      m' ((c.tc : Thread Cert.IdxRefIdeal.nD Cert.IdxRefIdeal.τ).loc Cert.IdxRefIdeal.main_arg0) = m ((c.tc : Thread Cert.IdxIdeal.nD Cert.IdxIdeal.τ).loc Cert.IdxIdeal.main_arg0)
      ∧ m' ((c.tc : Thread Cert.IdxRefIdeal.nD Cert.IdxRefIdeal.τ).loc Cert.IdxRefIdeal.main_arg1) = m ((c.tc : Thread Cert.IdxIdeal.nD Cert.IdxIdeal.τ).loc Cert.IdxIdeal.main_arg1)
      ∧ m' ((c.tc : Thread Cert.IdxRefIdeal.nD Cert.IdxRefIdeal.τ).loc Cert.IdxRefIdeal.main_arg2) = m ((c.tc : Thread Cert.IdxIdeal.nD Cert.IdxIdeal.τ).loc Cert.IdxIdeal.main_arg2)) →
    ∃ (v0 : (c : Dev Cert.IdxIdeal.nD) → Buf (Elt Ideal) ((c.tc : Thread Cert.IdxIdeal.nD Cert.IdxIdeal.τ).loc Cert.IdxIdeal.main_v2_0)) (v1 : (c : Dev Cert.IdxIdeal.nD) → Buf (Elt Ideal) ((c.tc : Thread Cert.IdxIdeal.nD Cert.IdxIdeal.τ).loc Cert.IdxIdeal.main_v2_1)) (v2 : (c : Dev Cert.IdxIdeal.nD) → Buf (Elt Ideal) ((c.tc : Thread Cert.IdxIdeal.nD Cert.IdxIdeal.τ).loc Cert.IdxIdeal.main_v2_2)) (v3 : (c : Dev Cert.IdxIdeal.nD) → Buf (Elt Ideal) ((c.tc : Thread Cert.IdxIdeal.nD Cert.IdxIdeal.τ).loc Cert.IdxIdeal.main_v2_3)) (v4 : (c : Dev Cert.IdxIdeal.nD) → Buf (Elt Ideal) ((c.tc : Thread Cert.IdxIdeal.nD Cert.IdxIdeal.τ).loc Cert.IdxIdeal.main_v2_4)),
      θ_run (Cert.IdxIdeal.defs (F := Ideal)) (onTc (τ := Cert.IdxIdeal.τ) (Cert.IdxIdeal.main (F := Ideal))) ⟨m, fun _ => 0, g⟩ (fun r => ∀ c : Dev Cert.IdxIdeal.nD,
          r.2.mem ((c.tc : Thread Cert.IdxIdeal.nD Cert.IdxIdeal.τ).loc Cert.IdxIdeal.main_v2_0) = v0 c
          ∧ r.2.mem ((c.tc : Thread Cert.IdxIdeal.nD Cert.IdxIdeal.τ).loc Cert.IdxIdeal.main_v2_1) = v1 c
          ∧ r.2.mem ((c.tc : Thread Cert.IdxIdeal.nD Cert.IdxIdeal.τ).loc Cert.IdxIdeal.main_v2_2) = v2 c
          ∧ r.2.mem ((c.tc : Thread Cert.IdxIdeal.nD Cert.IdxIdeal.τ).loc Cert.IdxIdeal.main_v2_3) = v3 c
          ∧ r.2.mem ((c.tc : Thread Cert.IdxIdeal.nD Cert.IdxIdeal.τ).loc Cert.IdxIdeal.main_v2_4) = v4 c
          ∧ r.2.mem ((c.tc : Thread Cert.IdxIdeal.nD Cert.IdxIdeal.τ).loc Cert.IdxIdeal.main_arg0) = m ((c.tc : Thread Cert.IdxIdeal.nD Cert.IdxIdeal.τ).loc Cert.IdxIdeal.main_arg0)
          ∧ r.2.mem ((c.tc : Thread Cert.IdxIdeal.nD Cert.IdxIdeal.τ).loc Cert.IdxIdeal.main_arg1) = m ((c.tc : Thread Cert.IdxIdeal.nD Cert.IdxIdeal.τ).loc Cert.IdxIdeal.main_arg1)
          ∧ r.2.mem ((c.tc : Thread Cert.IdxIdeal.nD Cert.IdxIdeal.τ).loc Cert.IdxIdeal.main_arg2) = m ((c.tc : Thread Cert.IdxIdeal.nD Cert.IdxIdeal.τ).loc Cert.IdxIdeal.main_arg2))
      ∧ θ_run (Cert.IdxRefIdeal.defs (F := Ideal)) (onTc (τ := Cert.IdxRefIdeal.τ) (Cert.IdxRefIdeal.main (F := Ideal))) ⟨m', fun _ => 0, g'⟩ (fun r => ∀ c : Dev Cert.IdxRefIdeal.nD,
          r.2.mem ((c.tc : Thread Cert.IdxRefIdeal.nD Cert.IdxRefIdeal.τ).loc Cert.IdxRefIdeal.main_v15) = v0 c
          ∧ r.2.mem ((c.tc : Thread Cert.IdxRefIdeal.nD Cert.IdxRefIdeal.τ).loc Cert.IdxRefIdeal.main_v29) = v1 c
          ∧ r.2.mem ((c.tc : Thread Cert.IdxRefIdeal.nD Cert.IdxRefIdeal.τ).loc Cert.IdxRefIdeal.main_v30) = v2 c
          ∧ r.2.mem ((c.tc : Thread Cert.IdxRefIdeal.nD Cert.IdxRefIdeal.τ).loc Cert.IdxRefIdeal.main_v32) = v3 c
          ∧ r.2.mem ((c.tc : Thread Cert.IdxRefIdeal.nD Cert.IdxRefIdeal.τ).loc Cert.IdxRefIdeal.main_v35) = v4 c
          ∧ r.2.mem ((c.tc : Thread Cert.IdxRefIdeal.nD Cert.IdxRefIdeal.τ).loc Cert.IdxRefIdeal.main_arg0) = m' ((c.tc : Thread Cert.IdxRefIdeal.nD Cert.IdxRefIdeal.τ).loc Cert.IdxRefIdeal.main_arg0)
          ∧ r.2.mem ((c.tc : Thread Cert.IdxRefIdeal.nD Cert.IdxRefIdeal.τ).loc Cert.IdxRefIdeal.main_arg1) = m' ((c.tc : Thread Cert.IdxRefIdeal.nD Cert.IdxRefIdeal.τ).loc Cert.IdxRefIdeal.main_arg1)
          ∧ r.2.mem ((c.tc : Thread Cert.IdxRefIdeal.nD Cert.IdxRefIdeal.τ).loc Cert.IdxRefIdeal.main_arg2) = m' ((c.tc : Thread Cert.IdxRefIdeal.nD Cert.IdxRefIdeal.τ).loc Cert.IdxRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v17) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Oproj_OprojIdeal : Prop :=
  True

def algebraic_OprojIdeal_OprojRefIdeal [hOprojIdeal : Cert.OprojIdeal.Facts] [hOprojRefIdeal : Cert.OprojRefIdeal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojRefIdeal.nD Cert.OprojRefIdeal.τ Cert.OprojRefIdeal.sig) → Buf (Elt Ideal) ℓ) (g' : Dev Cert.OprojRefIdeal.nD → PrngReg), Pre_OprojIdeal m →
    (∀ c : Dev Cert.OprojIdeal.nD,
      m' ((c.tc : Thread Cert.OprojRefIdeal.nD Cert.OprojRefIdeal.τ).loc Cert.OprojRefIdeal.main_arg0) = m ((c.tc : Thread Cert.OprojIdeal.nD Cert.OprojIdeal.τ).loc Cert.OprojIdeal.main_arg0)
      ∧ m' ((c.tc : Thread Cert.OprojRefIdeal.nD Cert.OprojRefIdeal.τ).loc Cert.OprojRefIdeal.main_arg1) = m ((c.tc : Thread Cert.OprojIdeal.nD Cert.OprojIdeal.τ).loc Cert.OprojIdeal.main_arg1)
      ∧ m' ((c.tc : Thread Cert.OprojRefIdeal.nD Cert.OprojRefIdeal.τ).loc Cert.OprojRefIdeal.main_arg2) = m ((c.tc : Thread Cert.OprojIdeal.nD Cert.OprojIdeal.τ).loc Cert.OprojIdeal.main_arg2)
      ∧ m' ((c.tc : Thread Cert.OprojRefIdeal.nD Cert.OprojRefIdeal.τ).loc Cert.OprojRefIdeal.main_arg3) = m ((c.tc : Thread Cert.OprojIdeal.nD Cert.OprojIdeal.τ).loc Cert.OprojIdeal.main_arg3)
      ∧ m' ((c.tc : Thread Cert.OprojRefIdeal.nD Cert.OprojRefIdeal.τ).loc Cert.OprojRefIdeal.main_arg4) = m ((c.tc : Thread Cert.OprojIdeal.nD Cert.OprojIdeal.τ).loc Cert.OprojIdeal.main_arg4)) →
    ∃ (v0 : (c : Dev Cert.OprojIdeal.nD) → Buf (Elt Ideal) ((c.tc : Thread Cert.OprojIdeal.nD Cert.OprojIdeal.τ).loc Cert.OprojIdeal.main_v2_0)) (v1 : (c : Dev Cert.OprojIdeal.nD) → Buf (Elt Ideal) ((c.tc : Thread Cert.OprojIdeal.nD Cert.OprojIdeal.τ).loc Cert.OprojIdeal.main_v2_1)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v2_0) = v0 c
          ∧ r.2.mem ((c.tc : Thread Cert.OprojIdeal.nD Cert.OprojIdeal.τ).loc Cert.OprojIdeal.main_v2_1) = v1 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
          ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4))
      ∧ θ_run (Cert.OprojRefIdeal.defs (F := Ideal)) (onTc (τ := Cert.OprojRefIdeal.τ) (Cert.OprojRefIdeal.main (F := Ideal))) ⟨m', fun _ => 0, g'⟩ (fun r => ∀ c : Dev Cert.OprojRefIdeal.nD,
          r.2.mem ((c.tc : Thread Cert.OprojRefIdeal.nD Cert.OprojRefIdeal.τ).loc Cert.OprojRefIdeal.main_v28) = v0 c
          ∧ r.2.mem ((c.tc : Thread Cert.OprojRefIdeal.nD Cert.OprojRefIdeal.τ).loc Cert.OprojRefIdeal.main_v29) = v1 c
          ∧ r.2.mem ((c.tc : Thread Cert.OprojRefIdeal.nD Cert.OprojRefIdeal.τ).loc Cert.OprojRefIdeal.main_arg0) = m' ((c.tc : Thread Cert.OprojRefIdeal.nD Cert.OprojRefIdeal.τ).loc Cert.OprojRefIdeal.main_arg0)
          ∧ r.2.mem ((c.tc : Thread Cert.OprojRefIdeal.nD Cert.OprojRefIdeal.τ).loc Cert.OprojRefIdeal.main_arg1) = m' ((c.tc : Thread Cert.OprojRefIdeal.nD Cert.OprojRefIdeal.τ).loc Cert.OprojRefIdeal.main_arg1)
          ∧ r.2.mem ((c.tc : Thread Cert.OprojRefIdeal.nD Cert.OprojRefIdeal.τ).loc Cert.OprojRefIdeal.main_arg2) = m' ((c.tc : Thread Cert.OprojRefIdeal.nD Cert.OprojRefIdeal.τ).loc Cert.OprojRefIdeal.main_arg2)
          ∧ r.2.mem ((c.tc : Thread Cert.OprojRefIdeal.nD Cert.OprojRefIdeal.τ).loc Cert.OprojRefIdeal.main_arg3) = m' ((c.tc : Thread Cert.OprojRefIdeal.nD Cert.OprojRefIdeal.τ).loc Cert.OprojRefIdeal.main_arg3)
          ∧ r.2.mem ((c.tc : Thread Cert.OprojRefIdeal.nD Cert.OprojRefIdeal.τ).loc Cert.OprojRefIdeal.main_arg4) = m' ((c.tc : Thread Cert.OprojRefIdeal.nD Cert.OprojRefIdeal.τ).loc Cert.OprojRefIdeal.main_arg4))

def Claim : Prop :=
  ∃ (hFfn : Cert.Ffn.Facts) (hFfnIdeal : Cert.FfnIdeal.Facts) (hFfnRefIdeal : Cert.FfnRefIdeal.Facts) (hConv : Cert.Conv.Facts) (hConvIdeal : Cert.ConvIdeal.Facts) (hConvRefIdeal : Cert.ConvRefIdeal.Facts) (hQlat : Cert.Qlat.Facts) (hQlatIdeal : Cert.QlatIdeal.Facts) (hQlatRefIdeal : Cert.QlatRefIdeal.Facts) (hIdx : Cert.Idx.Facts) (hIdxIdeal : Cert.IdxIdeal.Facts) (hIdxRefIdeal : Cert.IdxRefIdeal.Facts) (hMerge : Cert.Merge.Facts) (hMergeIdeal : Cert.MergeIdeal.Facts) (hMergeRefIdeal : Cert.MergeRefIdeal.Facts) (hOproj : Cert.Oproj.Facts) (hOprojIdeal : Cert.OprojIdeal.Facts) (hOprojRefIdeal : Cert.OprojRefIdeal.Facts),
    quiescent_Ffn (hFfn := hFfn)
    ∧ quiescent_FfnIdeal (hFfnIdeal := hFfnIdeal)
    ∧ quiescent_FfnRefIdeal (hFfnRefIdeal := hFfnRefIdeal)
    ∧ quiescent_Conv (hConv := hConv)
    ∧ quiescent_ConvIdeal (hConvIdeal := hConvIdeal)
    ∧ quiescent_ConvRefIdeal (hConvRefIdeal := hConvRefIdeal)
    ∧ quiescent_Qlat (hQlat := hQlat)
    ∧ quiescent_QlatIdeal (hQlatIdeal := hQlatIdeal)
    ∧ quiescent_QlatRefIdeal (hQlatRefIdeal := hQlatRefIdeal)
    ∧ quiescent_Idx (hIdx := hIdx)
    ∧ quiescent_IdxIdeal (hIdxIdeal := hIdxIdeal)
    ∧ quiescent_IdxRefIdeal (hIdxRefIdeal := hIdxRefIdeal)
    ∧ quiescent_Merge (hMerge := hMerge)
    ∧ quiescent_MergeIdeal (hMergeIdeal := hMergeIdeal)
    ∧ quiescent_MergeRefIdeal (hMergeRefIdeal := hMergeRefIdeal)
    ∧ quiescent_Oproj (hOproj := hOproj)
    ∧ quiescent_OprojIdeal (hOprojIdeal := hOprojIdeal)
    ∧ quiescent_OprojRefIdeal (hOprojRefIdeal := hOprojRefIdeal)
    ∧ preserves_Ffn_FfnIdeal
    ∧ algebraic_FfnIdeal_FfnRefIdeal (hFfnIdeal := hFfnIdeal) (hFfnRefIdeal := hFfnRefIdeal)
    ∧ preserves_Conv_ConvIdeal
    ∧ algebraic_ConvIdeal_ConvRefIdeal (hConvIdeal := hConvIdeal) (hConvRefIdeal := hConvRefIdeal)
    ∧ preserves_Qlat_QlatIdeal
    ∧ algebraic_QlatIdeal_QlatRefIdeal (hQlatIdeal := hQlatIdeal) (hQlatRefIdeal := hQlatRefIdeal)
    ∧ preserves_Idx_IdxIdeal
    ∧ algebraic_IdxIdeal_IdxRefIdeal (hIdxIdeal := hIdxIdeal) (hIdxRefIdeal := hIdxRefIdeal)
    ∧ preserves_Merge_MergeIdeal
    ∧ algebraic_MergeIdeal_MergeRefIdeal (hMergeIdeal := hMergeIdeal) (hMergeRefIdeal := hMergeRefIdeal)
    ∧ preserves_Oproj_OprojIdeal
    ∧ algebraic_OprojIdeal_OprojRefIdeal (hOprojIdeal := hOprojIdeal) (hOprojRefIdeal := hOprojRefIdeal)
-- ==== Ffn.lean ====
abbrev S8192x2048 : Shape := ⟨2, ![8192, 2048]⟩
abbrev S2048x8192 : Shape := ⟨2, ![2048, 8192]⟩
abbrev S1x2048 : Shape := ⟨2, ![1, 2048]⟩
abbrev S2048x2048 : Shape := ⟨2, ![2048, 2048]⟩
abbrev S8192x256 : Shape := ⟨2, ![8192, 256]⟩
abbrev S256x2048 : Shape := ⟨2, ![256, 2048]⟩
abbrev S512x2048 : Shape := ⟨2, ![512, 2048]⟩
abbrev S2048x1024 : Shape := ⟨2, ![2048, 1024]⟩
abbrev S1024x2048 : Shape := ⟨2, ![1024, 2048]⟩
abbrev S512x256 : Shape := ⟨2, ![512, 256]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 19
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x2048, .bf16⟩
  | .hbm, ⟨3, _⟩ => ⟨S8192x2048, .f32⟩
  | .hbm, ⟨4, _⟩ => ⟨S1x2048, .f32⟩
  | .hbm, ⟨5, _⟩ => ⟨S1x2048, .f32⟩
  | .hbm, ⟨6, _⟩ => ⟨S2048x2048, .bf16⟩
  | .hbm, ⟨7, _⟩ => ⟨S8192x256, .bf16⟩
  | .hbm, ⟨8, _⟩ => ⟨S256x2048, .bf16⟩
  | .hbm, ⟨9, _⟩ => ⟨S1x2048, .f32⟩
  | .hbm, ⟨10, _⟩ => ⟨S1x2048, .f32⟩
  | .hbm, ⟨11, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S1x2048, .f32⟩
  | .local _ .vmem, ⟨10, _⟩ => ⟨S2048x2048, .bf16⟩
  | .local _ .vmem, ⟨11, _⟩ => ⟨S512x256, .bf16⟩
  | .local _ .vmem, ⟨12, _⟩ => ⟨S512x256, .bf16⟩
  | .local _ .vmem, ⟨13, _⟩ => ⟨S256x2048, .bf16⟩
  | .local _ .vmem, ⟨14, _⟩ => ⟨S1x2048, .f32⟩
  | .local _ .vmem, ⟨15, _⟩ => ⟨S1x2048, .f32⟩
  | .local _ .vmem, ⟨16, _⟩ => ⟨S512x2048, .f32⟩
  | .local _ .vmem, ⟨17, _⟩ => ⟨S512x2048, .f32⟩
  | .local _ .vmem, ⟨18, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_12 : BitVec 32 := 0#32
  let v19 : BitVec 1 := Scalar.cmpi .ne v18 c0_i32_12
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S256x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== FfnRefIdeal.lean ====
abbrev S8192x2048 : Shape := ⟨2, ![8192, 2048]⟩
abbrev S2048x8192 : Shape := ⟨2, ![2048, 8192]⟩
abbrev S1x2048 : Shape := ⟨2, ![1, 2048]⟩
abbrev S2048x2048 : Shape := ⟨2, ![2048, 2048]⟩
abbrev S8192x256 : Shape := ⟨2, ![8192, 256]⟩
abbrev S256x2048 : Shape := ⟨2, ![256, 2048]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 96
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x2048, .bf16⟩
  | .hbm, ⟨3, _⟩ => ⟨S8192x2048, .f32⟩
  | .hbm, ⟨4, _⟩ => ⟨S1x2048, .f32⟩
  | .hbm, ⟨5, _⟩ => ⟨S1x2048, .f32⟩
  | .hbm, ⟨6, _⟩ => ⟨S2048x2048, .bf16⟩
  | .hbm, ⟨7, _⟩ => ⟨S8192x256, .bf16⟩
  | .hbm, ⟨8, _⟩ => ⟨S256x2048, .bf16⟩
  | .hbm, ⟨9, _⟩ => ⟨S1x2048, .f32⟩
  | .hbm, ⟨10, _⟩ => ⟨S1x2048, .f32⟩
  | .hbm, ⟨11, _⟩ => ⟨S8192x2048, .f32⟩
  | .hbm, ⟨12, _⟩ => ⟨S2048x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x2048, .f32⟩
  | .hbm, ⟨40, _⟩ => ⟨S8192x2048, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x1, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S2048x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S_, .f32⟩
  | .hbm, ⟨56, _⟩ => ⟨S8192x2048, .f32⟩
  | .hbm, ⟨57, _⟩ => ⟨S8192x2048, .f32⟩
  | .hbm, ⟨58, _⟩ => ⟨S_, .f32⟩
  | .hbm, ⟨59, _⟩ => ⟨S8192x2048, .f32⟩
  | .hbm, ⟨60, _⟩ => ⟨S8192x2048, .f32⟩
  | .hbm, ⟨61, _⟩ => ⟨S8192x256, .f32⟩
  | .hbm, ⟨62, _⟩ => ⟨S256x2048, .f32⟩
  | .hbm, ⟨63, _⟩ => ⟨S8192x2048, .f32⟩
  | .hbm, ⟨64, _⟩ => ⟨S8192x2048, .f32⟩
  | .hbm, ⟨65, _⟩ => ⟨S_, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S_, .f32⟩
  | .hbm, ⟨70, _⟩ => ⟨S8192, .f32⟩
  | .hbm, ⟨71, _⟩ => ⟨S8192x1, .f32⟩
  | .hbm, ⟨72, _⟩ => ⟨S_, .f32⟩
  | .hbm, ⟨73, _⟩ => ⟨S8192x1, .f32⟩
  | .hbm, ⟨74, _⟩ => ⟨S8192x1, .f32⟩
  | .hbm, ⟨75, _⟩ => ⟨S8192x2048, .f32⟩
  | .hbm, ⟨76, _⟩ => ⟨S8192x2048, .f32⟩
  | .hbm, ⟨77, _⟩ => ⟨S8192x2048, .f32⟩
  | .hbm, ⟨78, _⟩ => ⟨S_, .f32⟩
  | .hbm, ⟨79, _⟩ => ⟨S8192, .f32⟩
  | .hbm, ⟨80, _⟩ => ⟨S8192x1, .f32⟩
  | .hbm, ⟨81, _⟩ => ⟨S_, .f32⟩
  | .hbm, ⟨82, _⟩ => ⟨S8192x1, .f32⟩
  | .hbm, ⟨83, _⟩ => ⟨S8192x1, .f32⟩
  | .hbm, ⟨84, _⟩ => ⟨S8192x2048, .f32⟩
  | .hbm, ⟨85, _⟩ => ⟨S8192x2048, .f32⟩
  | .hbm, ⟨86, _⟩ => ⟨S_, .f32⟩
  | .hbm, ⟨87, _⟩ => ⟨S8192x1, .f32⟩
  | .hbm, ⟨88, _⟩ => ⟨S8192x1, .f32⟩
  | .hbm, ⟨89, _⟩ => ⟨S8192x1, .f32⟩
  | .hbm, ⟨90, _⟩ => ⟨S8192x2048, .f32⟩
  | .hbm, ⟨91, _⟩ => ⟨S8192x2048, .f32⟩
  | .hbm, ⟨92, _⟩ => ⟨S8192x2048, .f32⟩
  | .hbm, ⟨93, _⟩ => ⟨S8192x2048, .f32⟩
  | .hbm, ⟨94, _⟩ => ⟨S8192x2048, .f32⟩
  | .hbm, ⟨95, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_call0_cst : Ref sig .tc := ⟨.hbm, 14, rfl⟩
abbrev main_call0_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_7 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_8 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_10 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_12 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩

abbrev nD : Nat := 1
abbrev τ : Topo := Topo.v7x

variable {F : FTy → Type} [FloatOps F]
-- ==== Conv.lean ====
abbrev S8192x2048 : Shape := ⟨2, ![8192, 2048]⟩
abbrev S2048x15696 : Shape := ⟨2, ![2048, 15696]⟩
abbrev S3x2048 : Shape := ⟨2, ![3, 2048]⟩
abbrev S15696x2048 : Shape := ⟨2, ![15696, 2048]⟩
abbrev S1024x2048 : Shape := ⟨2, ![1024, 2048]⟩
abbrev S512x2048 : Shape := ⟨2, ![512, 2048]⟩
abbrev S3x512 : Shape := ⟨2, ![3, 512]⟩
abbrev S256x2048 : Shape := ⟨2, ![256, 2048]⟩
abbrev S1024x512 : Shape := ⟨2, ![1024, 512]⟩
abbrev S1032x512 : Shape := ⟨2, ![1032, 512]⟩
abbrev S3x512x2048 : Shape := ⟨3, ![3, 512, 2048]⟩
abbrev S1x512x2048 : Shape := ⟨3, ![1, 512, 2048]⟩
abbrev S8x512 : Shape := ⟨2, ![8, 512]⟩
abbrev S1x512 : Shape := ⟨2, ![1, 512]⟩

abbrev nBuf : Space → Nat
  | .hbm => 7
  | .vmem => 18
  | .smem => 0
  | _ => 0

abbrev bufTy : (tb : Table) → Fin (tcTables nBuf tb) → BufTy
  | .hbm, ⟨0, _⟩ => ⟨S8192x2048, .bf16⟩
  | .hbm, ⟨1, _⟩ => ⟨S2048x15696, .f32⟩
  | .hbm, ⟨2, _⟩ => ⟨S3x2048, .f32⟩
  | .hbm, ⟨3, _⟩ => ⟨S8192x2048, .f32⟩
  | .hbm, ⟨4, _⟩ => ⟨S15696x2048, .f32⟩
  | .hbm, ⟨5, _⟩ => ⟨S8192x2048, .bf16⟩
  | .hbm, ⟨6, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S3x512, .f32⟩
  | .local _ .vmem, ⟨9, _⟩ => ⟨S3x512, .f32⟩
  | .local _ .vmem, ⟨10, _⟩ => ⟨S256x2048, .f32⟩
  | .local _ .vmem, ⟨11, _⟩ => ⟨S256x2048, .f32⟩
  | .local _ .vmem, ⟨12, _⟩ => ⟨S1024x512, .bf16⟩
  | .local _ .vmem, ⟨13, _⟩ => ⟨S1024x512, .bf16⟩
  | .local _ .vmem, ⟨14, _⟩ => ⟨S256x2048, .bf16⟩
  | .local _ .vmem, ⟨15, _⟩ => ⟨S256x2048, .bf16⟩
  | .local _ .vmem, ⟨16, _⟩ => ⟨S1032x512, .f32⟩
  | .local _ .vmem, ⟨17, _⟩ => ⟨S3x512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ConvRefIdeal.lean ====
abbrev S8192x2048 : Shape := ⟨2, ![8192, 2048]⟩
abbrev S2048x15696 : Shape := ⟨2, ![2048, 15696]⟩
abbrev S3x2048 : Shape := ⟨2, ![3, 2048]⟩
abbrev S2048x6144 : Shape := ⟨2, ![2048, 6144]⟩
abbrev S8192x6144 : Shape := ⟨2, ![8192, 6144]⟩
abbrev S_ : Shape := ⟨0, ![]⟩
abbrev S8194x2048 : Shape := ⟨2, ![8194, 2048]⟩
abbrev S1x2048 : Shape := ⟨2, ![1, 2048]⟩
abbrev S2048 : Shape := ⟨1, ![2048]⟩

abbrev nBuf : Space → Nat
  | .hbm => 37
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x15696, .f32⟩
  | .hbm, ⟨2, _⟩ => ⟨S3x2048, .f32⟩
  | .hbm, ⟨3, _⟩ => ⟨S8192x2048, .f32⟩
  | .hbm, ⟨4, _⟩ => ⟨S8192x2048, .f32⟩
  | .hbm, ⟨5, _⟩ => ⟨S2048x6144, .f32⟩
  | .hbm, ⟨6, _⟩ => ⟨S8192x6144, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .i32⟩
  | .hbm, ⟨12, _⟩ => ⟨S_, .f32⟩
  | .hbm, ⟨13, _⟩ => ⟨S8194x2048, .f32⟩
  | .hbm, ⟨14, _⟩ => ⟨S1x2048, .f32⟩
  | .hbm, ⟨15, _⟩ => ⟨S2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S1x2048, .f32⟩
  | .hbm, ⟨28, _⟩ => ⟨S2048, .f32⟩
  | .hbm, ⟨29, _⟩ => ⟨S8192x2048, .f32⟩
  | .hbm, ⟨30, _⟩ => ⟨S1x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .bf16⟩
  | .hbm, ⟨36, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩

abbrev nD : Nat := 1
abbrev τ : Topo := Topo.v7x

variable {F : FTy → Type} [FloatOps F]
-- ==== Qlat.lean ====
abbrev S8192x2048 : Shape := ⟨2, ![8192, 2048]⟩
abbrev S2048x15696 : Shape := ⟨2, ![2048, 15696]⟩
abbrev S2048x8192 : Shape := ⟨2, ![2048, 8192]⟩
abbrev S15696x2048 : Shape := ⟨2, ![15696, 2048]⟩
abbrev S16x256x8192 : Shape := ⟨3, ![16, 256, 8192]⟩
abbrev S1024x2048 : Shape := ⟨2, ![1024, 2048]⟩
abbrev S64x8192 : Shape := ⟨2, ![64, 8192]⟩
abbrev S4x256x1024 : Shape := ⟨3, ![4, 256, 1024]⟩
abbrev S1024x1024 : Shape := ⟨2, ![1024, 1024]⟩

abbrev nBuf : Space → Nat
  | .hbm => 6
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S2048x15696, .f32⟩
  | .hbm, ⟨2, _⟩ => ⟨S2048x8192, .f32⟩
  | .hbm, ⟨3, _⟩ => ⟨S15696x2048, .f32⟩
  | .hbm, ⟨4, _⟩ => ⟨S16x256x8192, .bf16⟩
  | .hbm, ⟨5, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S64x8192, .f32⟩
  | .local _ .vmem, ⟨5, _⟩ => ⟨S64x8192, .f32⟩
  | .local _ .vmem, ⟨6, _⟩ => ⟨S4x256x1024, .bf16⟩
  | .local _ .vmem, ⟨7, _⟩ => ⟨S4x256x1024, .bf16⟩
  | .local _ .vmem, ⟨8, _⟩ => ⟨S64x8192, .bf16⟩
  | .local _ .vmem, ⟨9, _⟩ => ⟨S64x8192, .bf16⟩
  | .local _ .vmem, ⟨10, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QlatRefIdeal.lean ====
abbrev S8192x2048 : Shape := ⟨2, ![8192, 2048]⟩
abbrev S2048x15696 : Shape := ⟨2, ![2048, 15696]⟩
abbrev S2048x8192 : Shape := ⟨2, ![2048, 8192]⟩
abbrev S2048x4096 : Shape := ⟨2, ![2048, 4096]⟩
abbrev S8192x4096 : Shape := ⟨2, ![8192, 4096]⟩
abbrev S_ : Shape := ⟨0, ![]⟩
abbrev S8192x16x256 : Shape := ⟨3, ![8192, 16, 256]⟩
abbrev S16x256x8192 : Shape := ⟨3, ![16, 256, 8192]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x15696, .f32⟩
  | .hbm, ⟨2, _⟩ => ⟨S2048x8192, .f32⟩
  | .hbm, ⟨3, _⟩ => ⟨S8192x2048, .f32⟩
  | .hbm, ⟨4, _⟩ => ⟨S2048x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x16x256, .f32⟩
  | .hbm, ⟨10, _⟩ => ⟨S16x256x8192, .f32⟩
  | .hbm, ⟨11, _⟩ => ⟨S16x256x8192, .bf16⟩
  | .hbm, ⟨12, _⟩ => ⟨S2048x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Idx.lean ====
abbrev S8192x2048 : Shape := ⟨2, ![8192, 2048]⟩
abbrev S2048x15696 : Shape := ⟨2, ![2048, 15696]⟩
abbrev S256 : Shape := ⟨1, ![256]⟩
abbrev S15696x2048 : Shape := ⟨2, ![15696, 2048]⟩
abbrev S1x256 : Shape := ⟨2, ![1, 256]⟩
abbrev S8192x256 : Shape := ⟨2, ![8192, 256]⟩
abbrev S8192x192 : Shape := ⟨2, ![8192, 192]⟩
abbrev S16x192x8192 : Shape := ⟨3, ![16, 192, 8192]⟩
abbrev S16x8192 : Shape := ⟨2, ![16, 8192]⟩
abbrev S512x2048 : Shape := ⟨2, ![512, 2048]⟩
abbrev S1408x2048 : Shape := ⟨2, ![1408, 2048]⟩
abbrev S512x256 : Shape := ⟨2, ![512, 256]⟩
abbrev S512x192 : Shape := ⟨2, ![512, 192]⟩
abbrev S16x192x512 : Shape := ⟨3, ![16, 192, 512]⟩
abbrev S16x512 : Shape := ⟨2, ![16, 512]⟩
abbrev S256x2048 : Shape := ⟨2, ![256, 2048]⟩
abbrev S512 : Shape := ⟨1, ![512]⟩
abbrev S512x1 : Shape := ⟨2, ![512, 1]⟩
abbrev S64x2048 : Shape := ⟨2, ![64, 2048]⟩
abbrev S512x64 : Shape := ⟨2, ![512, 64]⟩
abbrev S1024x2048 : Shape := ⟨2, ![1024, 2048]⟩
abbrev S1024x512 : Shape := ⟨2, ![1024, 512]⟩
abbrev S16x64x512 : Shape := ⟨3, ![16, 64, 512]⟩
abbrev S16x2048 : Shape := ⟨2, ![16, 2048]⟩

abbrev nBuf : Space → Nat
  | .hbm => 10
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S2048x15696, .f32⟩
  | .hbm, ⟨2, _⟩ => ⟨S256, .f32⟩
  | .hbm, ⟨3, _⟩ => ⟨S15696x2048, .f32⟩
  | .hbm, ⟨4, _⟩ => ⟨S1x256, .f32⟩
  | .hbm, ⟨5, _⟩ => ⟨S8192x2048, .bf16⟩
  | .hbm, ⟨6, _⟩ => ⟨S8192x256, .bf16⟩
  | .hbm, ⟨7, _⟩ => ⟨S8192x192, .bf16⟩
  | .hbm, ⟨8, _⟩ => ⟨S16x192x8192, .bf16⟩
  | .hbm, ⟨9, _⟩ => ⟨S16x8192, .f32⟩
  | .local _ .vmem, ⟨0, _⟩ => ⟨S512x2048, .f32⟩
  | .local _ .vmem, ⟨1, _⟩ => ⟨S512x2048, .f32⟩
  | .local _ .vmem, ⟨2, _⟩ => ⟨S1408x2048, .f32⟩
  | .local _ .vmem, ⟨3, _⟩ => ⟨S1x256, .f32⟩
  | .local _ .vmem, ⟨4, _⟩ => ⟨S512x2048, .bf16⟩
  | .local _ .vmem, ⟨5, _⟩ => ⟨S512x2048, .bf16⟩
  | .local _ .vmem, ⟨6, _⟩ => ⟨S512x256, .bf16⟩
  | .local _ .vmem, ⟨7, _⟩ => ⟨S512x256, .bf16⟩
  | .local _ .vmem, ⟨8, _⟩ => ⟨S512x192, .bf16⟩
  | .local _ .vmem, ⟨9, _⟩ => ⟨S512x192, .bf16⟩
  | .local _ .vmem, ⟨10, _⟩ => ⟨S16x192x512, .bf16⟩
  | .local _ .vmem, ⟨11, _⟩ => ⟨S16x192x512, .bf16⟩
  | .local _ .vmem, ⟨12, _⟩ => ⟨S16x512, .f32⟩
  | .local _ .vmem, ⟨13, _⟩ => ⟨S16x512, .f32⟩
  | .local _ .vmem, ⟨14, _⟩ => ⟨S1408x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c10240_i32 : BitVec 32 := 10240#32
  let c0_i32 : BitVec 32 := 0#32
  let c0_i32_0 : BitVec 32 := 0#32
  ![c10240_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1408x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x192x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== IdxRefIdeal.lean ====
abbrev S8192x2048 : Shape := ⟨2, ![8192, 2048]⟩
abbrev S2048x15696 : Shape := ⟨2, ![2048, 15696]⟩
abbrev S256 : Shape := ⟨1, ![256]⟩
abbrev S2048x1360 : Shape := ⟨2, ![2048, 1360]⟩
abbrev S8192x1360 : Shape := ⟨2, ![8192, 1360]⟩
abbrev S8192x256 : Shape := ⟨2, ![8192, 256]⟩
abbrev S8192x1024 : Shape := ⟨2, ![8192, 1024]⟩
abbrev S8192x64 : Shape := ⟨2, ![8192, 64]⟩
abbrev S8192x16 : Shape := ⟨2, ![8192, 16]⟩
abbrev S8192x16x64 : Shape := ⟨3, ![8192, 16, 64]⟩
abbrev S_ : Shape := ⟨0, ![]⟩
abbrev S8192 : Shape := ⟨1, ![8192]⟩
abbrev S8192x1 : Shape := ⟨2, ![8192, 1]⟩
abbrev S1x256 : Shape := ⟨2, ![1, 256]⟩
abbrev S8192x192 : Shape := ⟨2, ![8192, 192]⟩
abbrev S8192x16x192 : Shape := ⟨3, ![8192, 16, 192]⟩
abbrev S16x192x8192 : Shape := ⟨3, ![16, 192, 8192]⟩
abbrev S16x8192 : Shape := ⟨2, ![16, 8192]⟩

abbrev nBuf : Space → Nat
  | .hbm => 43
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x15696, .f32⟩
  | .hbm, ⟨2, _⟩ => ⟨S256, .f32⟩
  | .hbm, ⟨3, _⟩ => ⟨S2048x1360, .f32⟩
  | .hbm, ⟨4, _⟩ => ⟨S8192x1360, .f32⟩
  | .hbm, ⟨5, _⟩ => ⟨S8192x256, .f32⟩
  | .hbm, ⟨6, _⟩ => ⟨S8192x1024, .f32⟩
  | .hbm, ⟨7, _⟩ => ⟨S8192x64, .f32⟩
  | .hbm, ⟨8, _⟩ => ⟨S8192x16, .f32⟩
  | .hbm, ⟨9, _⟩ => ⟨S8192x16x64, .f32⟩
  | .hbm, ⟨10, _⟩ => ⟨S8192x64, .bf16⟩
  | .hbm, ⟨11, _⟩ => ⟨S8192x64, .f32⟩
  | .hbm, ⟨12, _⟩ => ⟨S8192x64, .f32⟩
  | .hbm, ⟨13, _⟩ => ⟨S8192x64, .bf16⟩
  | .hbm, ⟨14, _⟩ => ⟨S8192x16x64, .bf16⟩
  | .hbm, ⟨15, _⟩ => ⟨S8192x16x64, .f32⟩
  | .hbm, ⟨16, _⟩ => ⟨S8192x16x64, .f32⟩
  | .hbm, ⟨17, _⟩ => ⟨S8192x16x64, .bf16⟩
  | .hbm, ⟨18, _⟩ => ⟨S8192x2048, .bf16⟩
  | .hbm, ⟨19, _⟩ => ⟨S8192x256, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x256, .f32⟩
  | .hbm, ⟨31, _⟩ => ⟨S8192x256, .f32⟩
  | .hbm, ⟨32, _⟩ => ⟨S1x256, .f32⟩
  | .hbm, ⟨33, _⟩ => ⟨S8192x256, .f32⟩
  | .hbm, ⟨34, _⟩ => ⟨S8192x256, .f32⟩
  | .hbm, ⟨35, _⟩ => ⟨S8192x256, .bf16⟩
  | .hbm, ⟨36, _⟩ => ⟨S8192x192, .bf16⟩
  | .hbm, ⟨37, _⟩ => ⟨S8192x16x192, .bf16⟩
  | .hbm, ⟨38, _⟩ => ⟨S16x192x8192, .bf16⟩
  | .hbm, ⟨39, _⟩ => ⟨S_, .f32⟩
  | .hbm, ⟨40, _⟩ => ⟨S8192x16, .f32⟩
  | .hbm, ⟨41, _⟩ => ⟨S8192x16, .f32⟩
  | .hbm, ⟨42, _⟩ => ⟨S16x8192, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_2 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩

abbrev nD : Nat := 1
abbrev τ : Topo := Topo.v7x

variable {F : FTy → Type} [FloatOps F]
-- ==== Merge.lean ====
abbrev S8192x2048 : Shape := ⟨2, ![8192, 2048]⟩
abbrev S2048x15696 : Shape := ⟨2, ![2048, 15696]⟩
abbrev S2048x2048 : Shape := ⟨2, ![2048, 2048]⟩
abbrev S2048x8192 : Shape := ⟨2, ![2048, 8192]⟩
abbrev S15696x2048 : Shape := ⟨2, ![15696, 2048]⟩
abbrev S512x2048 : Shape := ⟨2, ![512, 2048]⟩
abbrev S2048x512 : Shape := ⟨2, ![2048, 512]⟩
abbrev S512x512 : Shape := ⟨2, ![512, 512]⟩
abbrev S2x512x2048 : Shape := ⟨3, ![2, 512, 2048]⟩
abbrev S1x512x2048 : Shape := ⟨3, ![1, 512, 2048]⟩

abbrev nBuf : Space → Nat
  | .hbm => 7
  | .vmem => 16
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x15696, .f32⟩
  | .hbm, ⟨3, _⟩ => ⟨S2048x2048, .f32⟩
  | .hbm, ⟨4, _⟩ => ⟨S2048x8192, .f32⟩
  | .hbm, ⟨5, _⟩ => ⟨S15696x2048, .f32⟩
  | .hbm, ⟨6, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S2048x512, .f32⟩
  | .local _ .vmem, ⟨9, _⟩ => ⟨S2048x512, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S2x512x2048, .bf16⟩
  | .local _ .vmem, ⟨15, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let c11600_i32 : BitVec 32 := 11600#32
  let arg0 : BitVec 32 := BitVec.ofNat 32 (i 0).val
  let c512_i32 : BitVec 32 := 512#32
  let v0 : BitVec 32 := Scalar.muli arg0 c512_i32
  let v1 : BitVec 32 := Scalar.addi c11600_i32 v0
  v1
def k0_mult2 (i : grid0.Coords) : BitVec 32 :=
  let c13648_i32 : BitVec 32 := 13648#32
  let arg0 : BitVec 32 := BitVec.ofNat 32 (i 0).val
  let c512_i32 : BitVec 32 := 512#32
  let v0 : BitVec 32 := Scalar.muli arg0 c512_i32
  let v1 : BitVec 32 := Scalar.addi c13648_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c11600_i32 : BitVec 32 := 11600#32
  let v1 : BitVec 32 := Scalar.addi c11600_i32 v0
  let v2 : BitVec 32 := v1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c13648_i32 : BitVec 32 := 13648#32
  let v1 : BitVec 32 := Scalar.addi c13648_i32 v0
  let v2 : BitVec 32 := v1
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeRefIdeal.lean ====
abbrev S8192x2048 : Shape := ⟨2, ![8192, 2048]⟩
abbrev S2048x15696 : Shape := ⟨2, ![2048, 15696]⟩
abbrev S2048x2048 : Shape := ⟨2, ![2048, 2048]⟩
abbrev S2048x8192 : Shape := ⟨2, ![2048, 8192]⟩
abbrev S2048x4096 : Shape := ⟨2, ![2048, 4096]⟩
abbrev S8192x4096 : Shape := ⟨2, ![8192, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x15696, .f32⟩
  | .hbm, ⟨3, _⟩ => ⟨S2048x2048, .f32⟩
  | .hbm, ⟨4, _⟩ => ⟨S2048x8192, .f32⟩
  | .hbm, ⟨5, _⟩ => ⟨S8192x2048, .f32⟩
  | .hbm, ⟨6, _⟩ => ⟨S2048x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Oproj.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S8192x2048, .f32⟩
  | .hbm, ⟨8, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .f32⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S2048x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OprojRefIdeal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x2048, .f32⟩
  | .hbm, ⟨33, _⟩ => ⟨S8192x2048, .f32⟩
  | .hbm, ⟨34, _⟩ => ⟨S1x2048, .f32⟩
  | .hbm, ⟨35, _⟩ => ⟨S8192x2048, .f32⟩
  | .hbm, ⟨36, _⟩ => ⟨S8192x2048, .f32⟩
  | .hbm, ⟨37, _⟩ => ⟨S1x2048, .f32⟩
  | .hbm, ⟨38, _⟩ => ⟨S8192x2048, .f32⟩
  | .hbm, ⟨39, _⟩ => ⟨S8192x2048, .f32⟩
  | .hbm, ⟨40, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Proof.Layer.lean ====
/-
  The layer's row functions over the extended reals, in which both the kernels' blocks and the reference's arrays are
  read: the mean of a row of 2048, the layer normalisation of a row at one of its elements, the logistic function as a
  quotient, and the squared rectifier.
-/
module

public import Idealize.ShloMosaic.Lib.Pointwise
public import Idealize.ShloMosaic.Lib.Pipeline.Value

@[expose] public section

noncomputable section

namespace Cert.Layer

open Idealize.ShloMosaic
open scoped BigOperators

/-- The mean of a row of 2048 extended reals: its sum over the real that the float word of 2048 encodes. -/
def mean (f : Fin 2048 → EReal) : EReal := Ideal.div (∑ k, f k) (Ideal.ofBits .f32 0x45000000#32)

/-- The variance of a row: the mean of the squared differences from the mean. -/
def variance (f : Fin 2048 → EReal) : EReal := mean fun k => (f k - mean f) * (f k - mean f)

/-- Element `k` of a row normalised, scaled by `g` and shifted by `b`. -/
def norm (f : Fin 2048 → EReal) (g b : EReal) (k : Fin 2048) : EReal :=
  (f k - mean f) * Ideal.rsqrt (variance f + Ideal.ofBits .f32 0x3727C5AC#32) * g + b

/-- The logistic function as a quotient. -/
def logistic (x : EReal) : EReal := Ideal.div 1 (1 + Ideal.exp (-x))

/-- The squared rectifier. -/
def relu2 (x : EReal) : EReal := max x 0 * max x 0

/-- Equal rows have equal normalisations. -/
theorem norm_congr {f f' : Fin 2048 → EReal} (h : ∀ k, f k = f' k) {g g' b b' : EReal} (hg : g = g') (hb : b = b')
    (k : Fin 2048) : norm f g b k = norm f' g' b' k := by
  rw [funext h, hg, hb]

/-- Element `k` of a row of 256 over the root of its mean square, scaled by `g`. -/
def rms (f : Fin 256 → EReal) (g : EReal) (k : Fin 256) : EReal :=
  f k * Ideal.rsqrt (Ideal.div (∑ j, f j * f j) (Ideal.ofBits .f32 0x43800000#32) + Ideal.ofBits .f32 0x358637BD#32) * g

/-- The three parts of an indexer's key: the rounded value twice and what the rounding leaves. -/
def keyParts (f : Fin 64 → EReal) (k : Fin 192) : EReal :=
  if h : k.val < 64 then f ⟨k.val, h⟩
  else if h' : k.val - 64 < 64 then f ⟨k.val - 64, by omega⟩
  else f ⟨k.val - 64 - 64, by omega⟩ - f ⟨k.val - 64 - 64, by omega⟩

/-- The three parts of an indexer's query: the rounded value, what the rounding leaves, the rounded value. -/
def queryParts (f : Fin 64 → EReal) (k : Fin 192) : EReal :=
  if h : k.val < 64 then f ⟨k.val, h⟩
  else if h' : k.val - 64 < 64 then f ⟨k.val - 64, by omega⟩ - f ⟨k.val - 64, by omega⟩
  else f ⟨k.val - 64 - 64, by omega⟩

/-- The scale of the indexer's head weights. -/
abbrev headScale : EReal := Ideal.ofBits .f32 0x3D000000#32

end Cert.Layer

end
-- ==== Proof.FfnPay.lean ====
/-
  What the stores of the feed-forward kernel's body are worth at an index, over the values loaded before them: the zero
  block, one block of 1024 hidden units added to the accumulator, the first normalised row, its gate, and the result's row.
-/
module

public import proofs.«01_k».proof.Proof.Gen.FfnIdeal.Skeleton
public import proofs.«01_k».proof.Proof.Layer

@[expose] public section

noncomputable section

namespace Cert.FfnIdeal.Pay

open Idealize.ShloMosaic Cert.FfnIdeal Cert.FfnIdeal.Gen Cert.Layer
open scoped BigOperators

/-- The scale of the residual. -/
abbrev alpha : EReal := Ideal.ofBits .f32 0x3F9837F0#32

theorem zero_apply (r : Fin 512) (c : Fin 2048) : k0_pay1 (F := Ideal) (ix2 r c) = 0 := by
  unfold_payloads
  pointwise

theorem step_apply (v3 : Vec Ideal S512x2048 .bf16) (v4 : Vec Ideal S2048x1024 .bf16) (v8 : Vec Ideal S512x2048 .f32)
    (v11 : Vec Ideal S1024x2048 .bf16) (r : Fin 512) (c : Fin 2048) :
    k0_pay2 (F := Ideal) v3 v4 v8 v11 (ix2 r c)
      = v8 (ix2 r c) + ∑ k : Fin 1024, relu2 (∑ j : Fin 2048, v3 (ix2 r j) * v4 (ix2 j k)) * v11 (ix2 k c) := by
  unfold_payloads
  pointwise [dot_S512x2048_S2048x1024_S512x1024_1_0_0_1_n_n, dot_S512x1024_S1024x2048_S512x2048_1_0_0_1_n_n]
  rfl

theorem first_apply (v20 v23 : Vec Ideal S512x2048 .f32) (v25 v26 : Vec Ideal S1x2048 .f32) (r : Fin 512) (c : Fin 2048) :
    k0_pay4 (F := Ideal) v20 v23 v25 v26 (ix2 r c)
      = norm (fun k => alpha * v20 (ix2 r k) + v23 (ix2 r k)) (v25 (ix2 0 c)) (v26 (ix2 0 c)) c := by
  unfold_payloads
  pointwise
  rfl

theorem gate_apply (v20 v23 : Vec Ideal S512x2048 .f32) (v25 v26 : Vec Ideal S1x2048 .f32) (v48 : Vec Ideal S2048x2048 .bf16)
    (r : Fin 512) (c : Fin 2048) :
    k0_pay5 (F := Ideal) v20 v23 v25 v26 v48 (ix2 r c)
      = logistic (∑ k : Fin 2048, k0_pay4 (F := Ideal) v20 v23 v25 v26 (ix2 r k) * v48 (ix2 k c)) := by
  unfold k0_pay5
  generalize k0_pay4 (F := Ideal) v20 v23 v25 v26 = w
  pointwise [dot_S512x2048_S2048x2048_S512x2048_1_0_0_1_n_n, zero_sub]
  rfl

theorem last_apply (v46 v56 : FVec Ideal S512x2048 .f32) (v57 : Vec Ideal S512x256 .bf16) (v58 : Vec Ideal S256x2048 .bf16)
    (v64 v65 : Vec Ideal S1x2048 .f32) (r : Fin 512) (c : Fin 2048) :
    k0_pay3 (F := Ideal) v46 v56 v57 v58 v64 v65 (ix2 r c)
      = norm (fun k => alpha * v46 (ix2 r k) + v56 (ix2 r k) * ∑ p : Fin 256, v57 (ix2 r p) * v58 (ix2 p k))
          (v64 (ix2 0 c)) (v65 (ix2 0 c)) c := by
  unfold_payloads
  pointwise [dot_S512x256_S256x2048_S512x2048_1_0_0_1_n_n]
  rfl

end Cert.FfnIdeal.Pay

end
-- ==== Proof.FfnBlock.lean ====
/-
  What the feed-forward kernel leaves at a grid point, over the blocks its windows hold there: the accumulator after the
  first block of hidden units and after a later one, and the block of the result that the last of the eight points stores.
-/
module

public import proofs.«01_k».proof.Proof.Gen.FfnIdeal.Value
public import proofs.«01_k».proof.Proof.FfnPay
public import Idealize.ShloMosaic.Lib.Pipeline.ValueKit
public import Idealize.ShloMosaic.Lib.Pipeline.ReadBack

@[expose] public section

noncomputable section

namespace Cert.FfnIdeal.Block

open Idealize.ShloMosaic Idealize.ShloMosaic.TcCoe Idealize.SL.Sem Cert.FfnIdeal Cert.FfnIdeal.Gen Cert.FfnIdeal.Value Cert.FfnIdeal.Pay Cert.Layer
open scoped BigOperators

variable (m : (ℓ : Loc nD τ sig) → Buf (Elt Ideal) ℓ)

/-- The accumulator after the first block of hidden units: that block's products over zero. -/
theorem acc_first (c : Dev nD) (t : Fin cfg0.N) (h0 : t.val % 8 = 0) :
    (outsAt0 m c t.val t.isLt).2 = k0_pay2 (iblk m c 0 t) (iblk m c 1 t) (k0_pay1 (F := Ideal)) (iblk m c 2 t) := by
  rw [outsAt0_A m c t h0 (by omega)]
  frame_out

/-- The accumulator after a later block: that block's products over what the point before left. -/
theorem acc_next (c : Dev nD) (t : Fin cfg0.N) (h0 : ¬t.val % 8 = 0) :
    (outsAt0 m c t.val t.isLt).2
      = k0_pay2 (iblk m c 0 t) (iblk m c 1 t) (outsAt0 m c (t.val - 1) (Nat.lt_of_le_of_lt (Nat.sub_le _ _) t.isLt)).2
          (iblk m c 2 t) := by
  by_cases h1 : t.val % 8 = 7
  · rw [outsAt0_C m c t h0 h1]
    frame_out
    rw [read_unread_whole]
  · rw [outsAt0_B m c t h0 h1]
    frame_out
    rw [read_unread_whole]

/-- The block of the result, over the accumulator as the same point completes it. -/
theorem out_last (c : Dev nD) (t : Fin cfg0.N) (h1 : t.val % 8 = 7) :
    (outsAt0 m c t.val t.isLt).1
      = k0_pay3 (k0_pay4 (iblk m c 3 t) (outsAt0 m c t.val t.isLt).2 (iblk m c 4 t) (iblk m c 5 t))
          (k0_pay5 (iblk m c 3 t) (outsAt0 m c t.val t.isLt).2 (iblk m c 4 t) (iblk m c 5 t) (iblk m c 6 t))
          (iblk m c 7 t) (iblk m c 8 t) (iblk m c 9 t) (iblk m c 10 t) := by
  rw [acc_next m c t (by omega), outsAt0_C m c t (by omega) h1]
  frame_out
  simp only [read_unread_whole]

/-- Where the windows' blocks lie: the rows' window moves with the block of rows, the weights' with the block of hidden
    units, the others hold one block. -/
theorem idx : ∀ t : Fin cfg0.N, win0_0.index t = ![t.val / 8, 0] ∧ win0_1.index t = ![0, t.val % 8]
    ∧ win0_2.index t = ![t.val % 8, 0] ∧ win0_3.index t = ![t.val / 8, 0] ∧ win0_4.index t = ![0, 0]
    ∧ win0_5.index t = ![0, 0] ∧ win0_6.index t = ![0, 0] ∧ win0_7.index t = ![t.val / 8, 0] ∧ win0_8.index t = ![0, 0]
    ∧ win0_9.index t = ![0, 0] ∧ win0_10.index t = ![0, 0] :=
  (by decide +kernel : ∀ t : Fin grid0.N, _)

end Cert.FfnIdeal.Block

end
-- ==== Proof.FfnRef.lean ====
/-
  What the feed-forward reference computes, read at an index: the residual sum of the first sublayer, its normalised row,
  the gate, the residual sum of the second sublayer, and the result.
-/
module

public import proofs.«01_k».proof.Proof.Gen.FfnRefIdeal.Read
public import proofs.«01_k».proof.Proof.Layer

@[expose] public section

noncomputable section

namespace Cert.FfnRefIdeal.Rows

open Idealize.ShloMosaic Cert.FfnRefIdeal Cert.FfnRefIdeal.Gen Cert.FfnRefIdeal.Read Cert.Layer
open scoped BigOperators

/-- The scale of the residual. -/
abbrev alpha : EReal := Ideal.ofBits .f32 0x3F9837F0#32

variable (x0 : (⟨S8192x2048, .bf16⟩ : BufTy).Contents (Elt Ideal)) (x1 : (⟨S2048x8192, .bf16⟩ : BufTy).Contents (Elt Ideal))
  (x2 : (⟨S8192x2048, .bf16⟩ : BufTy).Contents (Elt Ideal)) (x3 : (⟨S8192x2048, .f32⟩ : BufTy).Contents (Elt Ideal))
  (x4 x5 : (⟨S1x2048, .f32⟩ : BufTy).Contents (Elt Ideal)) (x6 : (⟨S2048x2048, .bf16⟩ : BufTy).Contents (Elt Ideal))
  (x7 : (⟨S8192x256, .bf16⟩ : BufTy).Contents (Elt Ideal)) (x8 : (⟨S256x2048, .bf16⟩ : BufTy).Contents (Elt Ideal))
  (x9 x10 : (⟨S1x2048, .f32⟩ : BufTy).Contents (Elt Ideal))

/-- The scaled residual plus the feed-forward's output. -/
theorem residual_apply (i : Fin 8192) (k : Fin 2048) :
    val_main_v9 (F := Ideal) x0 x1 x2 x3 (ix2 i k)
      = alpha * x3 (ix2 i k)
        + ∑ q : Fin 8192, relu2 (∑ j : Fin 2048, x0 (ix2 i j) * x1 (ix2 j q)) * x2 (ix2 q k) := by
  pointwise [val_main_v0, val_main_v1, val_main_v2, val_main_v3, val_main_v4, val_main_v5, val_main_v6, val_main_v7, val_main_v8, val_main_v9, val_main_cst, val_main_call0_v0, val_main_call0_cst, dot_S8192x2048_S2048x8192_S8192x8192_1_0_0_1_n_n, dot_S8192x8192_S8192x2048_S8192x2048_1_0_0_1_n_n]
  rfl

/-- The first normalised row. -/
theorem first_apply (i : Fin 8192) (k : Fin 2048) :
    val_main_v31 (F := Ideal) x0 x1 x2 x3 x4 x5 (ix2 i k)
      = norm (fun k => val_main_v9 (F := Ideal) x0 x1 x2 x3 (ix2 i k)) (x4 (ix2 0 k)) (x5 (ix2 0 k)) k := by
  unfold val_main_v31 val_main_v29 val_main_v27 val_main_v26 val_main_v25 val_main_v24 val_main_v22 val_main_v21 val_main_v20 val_main_v18 val_main_v17 val_main_v16 val_main_v15 val_main_v14 val_main_v13 val_main_v11 val_main_v10
  generalize val_main_v9 (F := Ideal) x0 x1 x2 x3 = w
  pointwise [val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_cst_0, val_main_cst_1, val_main_cst_2, val_main_cst_3, val_main_cst_4]
  rfl

/-- The gate. -/
theorem gate_apply (i : Fin 8192) (k : Fin 2048) :
    val_main_v39 (F := Ideal) x0 x1 x2 x3 x4 x5 x6 (ix2 i k)
      = logistic (∑ j : Fin 2048, val_main_v31 (F := Ideal) x0 x1 x2 x3 x4 x5 (ix2 i j) * x6 (ix2 j k)) := by
  unfold val_main_v39 val_main_v37 val_main_v35 val_main_v34 val_main_v33
  generalize val_main_v31 (F := Ideal) x0 x1 x2 x3 x4 x5 = w
  pointwise [val_main_v32, val_main_v33, val_main_v34, val_main_v35, val_main_v36, val_main_v37, val_main_v38, val_main_cst_5, val_main_cst_6, dot_S8192x2048_S2048x2048_S8192x2048_1_0_0_1_n_n]
  rfl

/-- The scaled first row plus the gated product of the second sublayer. -/
theorem second_apply (i : Fin 8192) (k : Fin 2048) :
    val_main_v46 (F := Ideal) x0 x1 x2 x3 x4 x5 x6 x7 x8 (ix2 i k)
      = alpha * val_main_v31 (F := Ideal) x0 x1 x2 x3 x4 x5 (ix2 i k)
        + val_main_v39 (F := Ideal) x0 x1 x2 x3 x4 x5 x6 (ix2 i k) * ∑ p : Fin 256, x7 (ix2 i p) * x8 (ix2 p k) := by
  unfold val_main_v46 val_main_v45 val_main_v43
  generalize val_main_v31 (F := Ideal) x0 x1 x2 x3 x4 x5 = w
  generalize val_main_v39 (F := Ideal) x0 x1 x2 x3 x4 x5 x6 = w'
  pointwise [val_main_v40, val_main_v41, val_main_v42, val_main_v43, val_main_v44, val_main_v45, val_main_v46, val_main_cst_7, dot_S8192x256_S256x2048_S8192x2048_1_0_0_1_n_n]

/-- The result. -/
theorem result_apply (i : Fin 8192) (k : Fin 2048) :
    val_main_v68 (F := Ideal) x0 x1 x2 x3 x4 x5 x6 x7 x8 x9 x10 (ix2 i k)
      = norm (fun k => val_main_v46 (F := Ideal) x0 x1 x2 x3 x4 x5 x6 x7 x8 (ix2 i k)) (x9 (ix2 0 k)) (x10 (ix2 0 k)) k := by
  unfold val_main_v68 val_main_v66 val_main_v64 val_main_v63 val_main_v62 val_main_v61 val_main_v59 val_main_v58 val_main_v57 val_main_v55 val_main_v54 val_main_v53 val_main_v52 val_main_v51 val_main_v50 val_main_v48 val_main_v47
  generalize val_main_v46 (F := Ideal) x0 x1 x2 x3 x4 x5 x6 x7 x8 = w
  pointwise [val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_cst_8, val_main_cst_9, val_main_cst_10, val_main_cst_11, val_main_cst_12]
  rfl

end Cert.FfnRefIdeal.Rows

end
-- ==== Proof.FfnValue.lean ====
/-
  The feed-forward kernel's array after the run, read at an index: the eight blocks of hidden units add up to the whole
  contraction, and the block that the last of a row block's eight points stores is the reference's result at its rows.
-/
module

public import proofs.«01_k».proof.Proof.FfnBlock
public import proofs.«01_k».proof.Proof.FfnRef

@[expose] public section

noncomputable section

namespace Cert.FfnIdeal.Result

open Idealize.ShloMosaic Idealize.ShloMosaic.TcCoe Idealize.SL.Sem Cert.FfnIdeal Cert.FfnIdeal.Gen Cert.FfnIdeal.Value Cert.FfnIdeal.Pay
  Cert.FfnIdeal.Block Cert.Layer
open scoped BigOperators

variable (m : (ℓ : Loc nD τ sig) → Buf (Elt Ideal) ℓ)

/-- What one block of hidden units adds to an entry of the accumulator. -/
def blockSum (x : Vec Ideal S512x2048 .bf16) (u : Vec Ideal S2048x1024 .bf16) (w : Vec Ideal S1024x2048 .bf16) (r : Fin 512)
    (l : Fin 2048) : EReal :=
  ∑ k : Fin 1024, relu2 (∑ j : Fin 2048, x (ix2 r j) * u (ix2 j k)) * w (ix2 k l)

/-- The same contraction over all the hidden units, at a row of the arrays. -/
def hidden (x : Vec Ideal S8192x2048 .bf16) (u : Vec Ideal S2048x8192 .bf16) (w : Vec Ideal S8192x2048 .bf16) (i : Fin 8192)
    (l : Fin 2048) : EReal :=
  ∑ q : Fin 8192, relu2 (∑ j : Fin 2048, x (ix2 i j) * u (ix2 j q)) * w (ix2 q l)

/-- What a point adds to the accumulator, over the blocks its windows hold. -/
def part (c : Dev nD) (t : Fin cfg0.N) (y : S512x2048.Idx) : EReal :=
  blockSum (iblk m c 0 t) (iblk m c 1 t) (iblk m c 2 t) (y 0) (y 1)

/-- The accumulator at the last point of a block of rows: the eight parts, added to zero. -/
theorem acc_sum (c : Dev nD) (t : Fin cfg0.N) (h : t.val % 8 = 7) (y : S512x2048.Idx) :
    (outsAt0 m c t.val t.isLt).2 y
      = 0 + ∑ s : Fin 8, part m c ⟨8 * (t.val / 8) + s.val, Pipeline.run_point_lt_of_flush t h s⟩ y := by
  refine Pipeline.eq_sum_fin_of_reset_step_apply_of_flush (fun n h => (outsAt0 m c n h).2) 8 (fun _ => (0 : EReal)) (part m c)
    (fun t h y => ?_) (fun t h y => ?_) t h y
  · obtain ⟨r, l, rfl⟩ : ∃ (r : Fin 512) (l : Fin 2048), y = ix2 r l := ⟨y 0, y 1, eq_ix2 y⟩
    exact (congrFun (acc_first m c t h) _).trans ((step_apply _ _ _ _ r l).trans (congrArg (· + part m c t (ix2 r l)) (zero_apply r l)))
  · obtain ⟨r, l, rfl⟩ : ∃ (r : Fin 512) (l : Fin 2048), y = ix2 r l := ⟨y 0, y 1, eq_ix2 y⟩
    exact (congrFun (acc_next m c t h) _).trans (step_apply _ _ _ _ r l)

/-- Row `r` of a point's block is row `512·(t/8) + r` of the array. -/
abbrev row (t : Fin cfg0.N) (r : Fin 512) : Fin 8192 :=
  ⟨512 * (t.val / 8) + r.val, by have := lt_of_lt_of_eq t.isLt (show cfg0.N = 128 from N_0); omega⟩

/-- The accumulator at the last point of a block of rows is the contraction over all hidden units. -/
theorem acc_eq (c : Dev nD) (t : Fin cfg0.N) (h : t.val % 8 = 7) (r : Fin 512) (l : Fin 2048) :
    (outsAt0 m c t.val t.isLt).2 (ix2 r l)
      = hidden (m ((c : Thread nD τ).loc main_arg0)) (m ((c : Thread nD τ).loc main_arg1)) (m ((c : Thread nD τ).loc main_arg2))
          (row t r) l := by
  rw [acc_sum m c t h, zero_add]
  refine Fin.sum_mul_add_congr fun s k hl => ?_
  have ht : (8 * (t.val / 8) + s.val) / 8 = t.val / 8 := by omega
  have hs : (8 * (t.val / 8) + s.val) % 8 = s.val := by omega
  have hi := idx ⟨8 * (t.val / 8) + s.val, Pipeline.run_point_lt_of_flush t h s⟩
  simp only [ht, hs] at hi
  have e2 : (iblk m c 2 ⟨8 * (t.val / 8) + s.val, Pipeline.run_point_lt_of_flush t h s⟩ : Vec Ideal S1024x2048 .bf16) (ix2 k l)
      = m ((c : Thread nD τ).loc main_arg2) (ix2 ⟨s.val * 1024 + k.val, hl⟩ l) := by
    blk_ext! [iblk, V, hi]
  have e1 : ∀ j : Fin 2048, (iblk m c 1 ⟨8 * (t.val / 8) + s.val, Pipeline.run_point_lt_of_flush t h s⟩ : Vec Ideal S2048x1024 .bf16) (ix2 j k)
      = m ((c : Thread nD τ).loc main_arg1) (ix2 j ⟨s.val * 1024 + k.val, hl⟩) := fun j => by
    blk_ext! [iblk, V, hi]
  have e0 : ∀ j : Fin 2048, (iblk m c 0 ⟨8 * (t.val / 8) + s.val, Pipeline.run_point_lt_of_flush t h s⟩ : Vec Ideal S512x2048 .bf16) (ix2 r j)
      = m ((c : Thread nD τ).loc main_arg0) (ix2 (row t r) j) := fun j => by
    blk_ext! [iblk, V, hi]
  refine congrArg₂ (· * ·) (congrArg relu2 (Finset.sum_congr rfl fun j _ => ?_)) e2
  exact congrArg₂ (· * ·) (e0 j) (e1 j)

/-- The block of the result at a row block's last point is the reference's result at its rows. -/
theorem out_eq (c : Dev nD) (t : Fin cfg0.N) (h : t.val % 8 = 7) (r : Fin 512) (l : Fin 2048) :
    (outsAt0 m c t.val t.isLt).1 (ix2 r l)
      = FfnRefIdeal.Read.val_main_v68 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10))
          (ix2 (row t r) l) := by
  have hi := idx t
  have e3 : ∀ j : Fin 2048, (iblk m c 3 t : Vec Ideal S512x2048 .f32) (ix2 r j)
      = m ((c : Thread nD τ).loc main_arg3) (ix2 (row t r) j) := fun j => by blk_ext! [iblk, V, hi]
  have e4 : ∀ j : Fin 2048, (iblk m c 4 t : Vec Ideal S1x2048 .f32) (ix2 0 j)
      = m ((c : Thread nD τ).loc main_arg4) (ix2 0 j) := fun j => by blk_ext! [iblk, V, hi]
  have e5 : ∀ j : Fin 2048, (iblk m c 5 t : Vec Ideal S1x2048 .f32) (ix2 0 j)
      = m ((c : Thread nD τ).loc main_arg5) (ix2 0 j) := fun j => by blk_ext! [iblk, V, hi]
  have e6 : ∀ (j : Fin 2048) (k : Fin 2048), (iblk m c 6 t : Vec Ideal S2048x2048 .bf16) (ix2 j k)
      = m ((c : Thread nD τ).loc main_arg6) (ix2 j k) := fun j k => by blk_ext! [iblk, V, hi]
  have e7 : ∀ p : Fin 256, (iblk m c 7 t : Vec Ideal S512x256 .bf16) (ix2 r p)
      = m ((c : Thread nD τ).loc main_arg7) (ix2 (row t r) p) := fun p => by blk_ext! [iblk, V, hi]
  have e8 : ∀ (p : Fin 256) (k : Fin 2048), (iblk m c 8 t : Vec Ideal S256x2048 .bf16) (ix2 p k)
      = m ((c : Thread nD τ).loc main_arg8) (ix2 p k) := fun p k => by blk_ext! [iblk, V, hi]
  have e9 : ∀ j : Fin 2048, (iblk m c 9 t : Vec Ideal S1x2048 .f32) (ix2 0 j)
      = m ((c : Thread nD τ).loc main_arg9) (ix2 0 j) := fun j => by blk_ext! [iblk, V, hi]
  have e10 : ∀ j : Fin 2048, (iblk m c 10 t : Vec Ideal S1x2048 .f32) (ix2 0 j)
      = m ((c : Thread nD τ).loc main_arg10) (ix2 0 j) := fun j => by blk_ext! [iblk, V, hi]
  have first : ∀ k : Fin 2048, k0_pay4 (F := Ideal) (iblk m c 3 t) (outsAt0 m c t.val t.isLt).2 (iblk m c 4 t) (iblk m c 5 t) (ix2 r k)
      = FfnRefIdeal.Read.val_main_v31 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (ix2 (row t r) k) := fun k => by
    rw [first_apply, FfnRefIdeal.Rows.first_apply]
    refine norm_congr (fun k => ?_) (e4 k) (e5 k) k
    rw [FfnRefIdeal.Rows.residual_apply, acc_eq m c t h, e3]
    rfl
  have gate : ∀ k : Fin 2048, k0_pay5 (F := Ideal) (iblk m c 3 t) (outsAt0 m c t.val t.isLt).2 (iblk m c 4 t) (iblk m c 5 t) (iblk m c 6 t) (ix2 r k)
      = FfnRefIdeal.Read.val_main_v39 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (ix2 (row t r) k) := fun k => by
    rw [gate_apply, FfnRefIdeal.Rows.gate_apply]
    simp only [first, e6]
  rw [out_last m c t h, last_apply, FfnRefIdeal.Rows.result_apply]
  refine norm_congr (fun k => ?_) (e9 l) (e10 l) l
  rw [FfnRefIdeal.Rows.second_apply, first, gate]
  simp only [e7, e8]

/-- The array that the run leaves is the reference's result. -/
theorem array_eq (c : Dev nD) :
    G11 m c
      = FfnRefIdeal.Read.val_main_v68 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) := by
  funext i
  obtain ⟨a, l, rfl⟩ : ∃ (a : Fin 8192) (l : Fin 2048), i = ix2 a l := ⟨i 0, i 1, eq_ix2 i⟩
  have hN : cfg0.N = 128 := N_0
  have hp : pt11Of (ix2 a l) = 8 * (a.val / 512) + 7 := by
    show 8 * (1 * (a.val / 512 - 0) + 1 * (l.val / 2048 - 0)) + 7 = _
    omega
  have hlt : pt11Of (ix2 a l) < cfg0.N := by omega
  have hloc : loc11Of (ix2 a l) = ix2 ⟨a.val % 512, by omega⟩ l := by
    funext b
    fin_cases b
    · rfl
    · exact Fin.ext (Nat.mod_eq_of_lt l.isLt)
  unfold G11
  rw [dif_pos hlt, ← outsAt0_sweep m c _ hlt, hloc, out_eq m c ⟨pt11Of (ix2 a l), hlt⟩ (by show pt11Of (ix2 a l) % 8 = 7; omega)]
  refine congrArg _ (congrArg (fun z => ix2 z l) (Fin.ext ?_))
  show 512 * (pt11Of (ix2 a l) / 8) + a.val % 512 = a.val
  omega

end Cert.FfnIdeal.Result

end
-- ==== Proof.ConvPay.lean ====
/-
  What the stores of the convolution's kernel are worth at an index: the side array's rows, the weights that the first point
  of a column block copies, the rows carried to the next block, the product of the two gated projections, and the block of the
  result over the three shifted loads of that product.
-/
module

public import proofs.«01_k».proof.Proof.Gen.ConvIdeal.Skeleton
public import proofs.«01_k».proof.Proof.Layer

@[expose] public section

noncomputable section

namespace Cert.ConvIdeal.Pay

open Idealize.ShloMosaic Cert.ConvIdeal Cert.ConvIdeal.Gen Cert.Layer
open scoped BigOperators

theorem side_apply (v0 : Vec Ideal S256x2048 .f32) (r : Fin 256) (k : Fin 2048) :
    k0_pay2 (F := Ideal) v0 (ix2 r k) = v0 (ix2 r k) := by
  unfold_payloads
  pointwise

theorem weights0_apply (v41 : Vec Ideal S512x2048 .f32) (r : Fin 512) (k : Fin 2048) :
    k0_pay3 (F := Ideal) v41 (ix3 0 r k) = v41 (ix2 r k) := by
  unfold_payloads
  pointwise

theorem weights1_apply (v47 : Vec Ideal S512x2048 .f32) (r : Fin 512) (k : Fin 2048) :
    k0_pay4 (F := Ideal) v47 (ix3 0 r k) = v47 (ix2 r k) := by
  unfold_payloads
  pointwise

theorem weights2_apply (v53 : Vec Ideal S512x2048 .f32) (r : Fin 512) (k : Fin 2048) :
    k0_pay5 (F := Ideal) v53 (ix3 0 r k) = v53 (ix2 r k) := by
  unfold_payloads
  pointwise

theorem zeros_apply (r : Fin 8) (l : Fin 512) : k0_pay6 (F := Ideal) (ix2 r l) = 0 := by
  unfold_payloads
  pointwise

theorem carried_apply (v41 : Vec Ideal S8x512 .f32) (r : Fin 8) (l : Fin 512) :
    k0_pay7 (F := Ideal) v41 (ix2 r l) = v41 (ix2 r l) := by
  unfold_payloads
  pointwise

theorem product_apply (v9 : Vec Ideal S1024x2048 .bf16) (v10 v13 : Vec Ideal S1x512x2048 .bf16) (r : Fin 1024) (l : Fin 512) :
    k0_pay8 (F := Ideal) v9 v10 v13 (ix2 r l)
      = (∑ k : Fin 2048, v9 (ix2 r k) * v10 (ix3 0 l k)) * (∑ k : Fin 2048, v9 (ix2 r k) * v13 (ix3 0 l k)) := by
  unfold_payloads
  pointwise [dot_S1024x2048_S512x2048_S1024x512_1_1_0_0_n_n]

theorem out_apply (v9 : Vec Ideal S1024x2048 .bf16) (v20 : Vec Ideal S3x512 .f32) (v22 v26 v31 : Vec Ideal S1024x512 .f32)
    (v35 : Vec Ideal S1x512x2048 .bf16) (r : Fin 1024) (l : Fin 512) :
    k0_pay1 (F := Ideal) v9 v20 (k0_pay9 v20 v22) v26 (k0_pay10 v20) v31 v35 (ix2 r l)
      = (∑ k : Fin 2048, v9 (ix2 r k) * v35 (ix3 0 l k))
        * ((v20 (ix2 0 l) * v22 (ix2 r l) + v20 (ix2 1 l) * v26 (ix2 r l)) + v20 (ix2 2 l) * v31 (ix2 r l)) := by
  unfold_payloads
  pointwise [dot_S1024x2048_S512x2048_S1024x512_1_1_0_0_n_n]

end Cert.ConvIdeal.Pay

end
-- ==== Proof.ConvRef.lean ====
/-
  The convolution's reference at an index: the product of two projections, padded by two rows of zeros in front, its three
  taps, and the gate over them; and the side array, cast.
-/
module

public import proofs.«01_k».proof.Proof.Gen.ConvRefIdeal.Read
public import proofs.«01_k».proof.Proof.Layer
public import Idealize.ShloMosaic.Lib.KernelVsHost

@[expose] public section

noncomputable section

namespace Cert.ConvRefIdeal.Rows

open Idealize.ShloMosaic Cert.ConvRefIdeal Cert.ConvRefIdeal.Read Cert.Layer
open scoped BigOperators

variable (x0 : (⟨S8192x2048, .bf16⟩ : BufTy).Contents (Elt Ideal)) (x1 : (⟨S2048x15696, .f32⟩ : BufTy).Contents (Elt Ideal))
  (x2 : (⟨S3x2048, .f32⟩ : BufTy).Contents (Elt Ideal)) (x3 : (⟨S8192x2048, .f32⟩ : BufTy).Contents (Elt Ideal))

/-- The projections side by side. -/
theorem projection_apply (i : Fin 8192) (q : Fin 6144) :
    val_main_v2 (F := Ideal) x0 x1 (ix2 i q) = ∑ j : Fin 2048, x0 (ix2 i j) * x1 (ix2 j ⟨q.val, by omega⟩) := by
  pointwise [val_main_v2, val_main_v1, val_main_v0, dot_S8192x2048_S2048x6144_S8192x6144_1_0_0_1_n_n]

/-- The product of the second and the third projection. -/
theorem product_apply (i : Fin 8192) (q : Fin 2048) :
    val_main_v6 (F := Ideal) x0 x1 (ix2 i q)
      = val_main_v2 (F := Ideal) x0 x1 (ix2 i ⟨2048 + q.val, by omega⟩)
        * val_main_v2 (F := Ideal) x0 x1 (ix2 i ⟨4096 + q.val, by omega⟩) := by
  unfold val_main_v6 val_main_v5 val_main_v4
  generalize val_main_v2 (F := Ideal) x0 x1 = w
  pointwise

/-- The first two rows of the padded product are zero. -/
theorem padded_before (a : Fin 8194) (q : Fin 2048) (h : a.val < 2) : val_main_v7 (F := Ideal) x0 x1 (ix2 a q) = 0 := by
  unfold val_main_v7
  rw [pad_apply_of_not_inside _ _ _ _ _ _ _ (ix2 a q) 0 fun hc => absurd hc.1 (by show ¬2 ≤ a.val; omega)]
  pointwise [val_main_call0_v0, val_main_c]
  exact (congrArg (fun n : ℤ => ((n : ℝ) : EReal)) (by decide : (0#32).toInt = 0)).trans (by simp)

/-- The other rows are the product's. -/
theorem padded_after (a : Fin 8194) (q : Fin 2048) (i : Fin 8192) (h : a.val = 2 + i.val) :
    val_main_v7 (F := Ideal) x0 x1 (ix2 a q) = val_main_v6 (F := Ideal) x0 x1 (ix2 i q) := by
  unfold val_main_v7
  refine pad_apply_of_inside _ _ _ _ _ _ _ (ix2 a q) (ix2 i q) fun b => ?_
  fin_cases b
  · show a.val = 2 + i.val * 1
    omega
  · show q.val = 0 + q.val * 1
    omega

/-- The first result: the first projection times the three taps. -/
theorem result_apply (i : Fin 8192) (q : Fin 2048) :
    val_main_v29 (F := Ideal) x0 x1 x2 (ix2 i q)
      = val_main_v2 (F := Ideal) x0 x1 (ix2 i ⟨q.val, by omega⟩)
        * ((x2 (ix2 0 q) * val_main_v7 (F := Ideal) x0 x1 (ix2 ⟨i.val, by omega⟩ q)
            + x2 (ix2 1 q) * val_main_v7 (F := Ideal) x0 x1 (ix2 ⟨1 + i.val, by omega⟩ q))
          + x2 (ix2 2 q) * val_main_v7 (F := Ideal) x0 x1 (ix2 ⟨2 + i.val, by omega⟩ q)) := by
  unfold val_main_v29 val_main_v28 val_main_v27 val_main_v26 val_main_v23 val_main_v20 val_main_v19 val_main_v16 val_main_v13
    val_main_v10 val_main_v3
  generalize val_main_v7 (F := Ideal) x0 x1 = w
  generalize val_main_v2 (F := Ideal) x0 x1 = u
  pointwise [val_main_v25, val_main_v24, val_main_v22, val_main_v21, val_main_v18, val_main_v17, val_main_v15, val_main_v14,
    val_main_v12, val_main_v11, val_main_v9, val_main_v8]

/-- The second result. -/
theorem side_apply (r : Fin 8192) (k : Fin 2048) : val_main_v30 (F := Ideal) x3 (ix2 r k) = x3 (ix2 r k) := by
  unfold val_main_v30
  pointwise

end Cert.ConvRefIdeal.Rows

end
-- ==== Proof.ConvValue.lean ====
/-
  The convolution's two arrays after the run: every point reads the weights that the first point of its column block copied,
  and the last rows of the block before it, so its block is the reference's result there; the side array's rows are copied
  one block a point.
-/
module

public import proofs.«01_k».proof.Proof.Gen.ConvIdeal.Value
public import proofs.«01_k».proof.Proof.ConvPay
public import proofs.«01_k».proof.Proof.ConvRef
public import Idealize.ShloMosaic.Lib.Pipeline.ValueKit
public import Idealize.ShloMosaic.Lib.Pipeline.ReadBack

@[expose] public section

noncomputable section

namespace Cert.ConvIdeal.Result

open Idealize.ShloMosaic Idealize.ShloMosaic.TcCoe Idealize.SL.Sem Cert.ConvIdeal Cert.ConvIdeal.Gen Cert.ConvIdeal.Value
  Cert.ConvIdeal.Pay Cert.Layer
open scoped BigOperators

variable (m : (ℓ : Loc nD τ sig) → Buf (Elt Ideal) ℓ)

/-- Where the windows' blocks lie. -/
theorem idx : ∀ t : Fin cfg0.N, win0_0.index t = ![t.val % 8, 0] ∧ win0_1.index t = ![t.val / 8, 0]
    ∧ win0_2.index t = ![4 + t.val / 8, 0] ∧ win0_3.index t = ![8 + t.val / 8, 0]
    ∧ win0_4.index t = ![0, t.val / 8] ∧ win0_5.index t = ![t.val, 0] :=
  (by decide +kernel : ∀ t : Fin grid0.N, _)

/-- A row of the first weights' window is a column of the input projection. -/
theorem weights0_block (c : Dev nD) (t : Fin cfg0.N) (r : Fin 512) (k : Fin 2048) (q : Fin 15696)
    (hq : q.val = 512 * (t.val / 8) + r.val) :
    (X0_1 m c t : Vec Ideal S512x2048 .f32) (ix2 r k) = m ((c : Thread nD τ).loc main_arg1) (ix2 k q) := by
  have hi := idx t
  unfold X0_1 Pipeline.Window.fill
  rw [dif_pos (moved0_1 t _)]
  blk_ext! [iblk, hi]

/-- A row of the second weights' window is a column of the input projection. -/
theorem weights1_block (c : Dev nD) (t : Fin cfg0.N) (r : Fin 512) (k : Fin 2048) (q : Fin 15696)
    (hq : q.val = 2048 + 512 * (t.val / 8) + r.val) :
    (X0_2 m c t : Vec Ideal S512x2048 .f32) (ix2 r k) = m ((c : Thread nD τ).loc main_arg1) (ix2 k q) := by
  have hi := idx t
  unfold X0_2 Pipeline.Window.fill
  rw [dif_pos (moved0_2 t _)]
  blk_ext! [iblk, hi]

/-- A row of the third weights' window is a column of the input projection. -/
theorem weights2_block (c : Dev nD) (t : Fin cfg0.N) (r : Fin 512) (k : Fin 2048) (q : Fin 15696)
    (hq : q.val = 4096 + 512 * (t.val / 8) + r.val) :
    (X0_3 m c t : Vec Ideal S512x2048 .f32) (ix2 r k) = m ((c : Thread nD τ).loc main_arg1) (ix2 k q) := by
  have hi := idx t
  unfold X0_3 Pipeline.Window.fill
  rw [dif_pos (moved0_3 t _)]
  blk_ext! [iblk, hi]

/-- The carried weights, after any point of a column block. -/
theorem weights_carried (c : Dev nD) (n : ℕ) (h : n < cfg0.N) (p : Fin 3) (r : Fin 512) (k : Fin 2048) (q : Fin 15696)
    (hq : q.val = 2048 * p.val + 512 * (n / 8) + r.val) :
    (outsAt0 m c n h).2.2.2 (ix3 p r k) = m ((c : Thread nD τ).loc main_arg1) (ix2 k q) := by
  have first : ∀ n (h : n < cfg0.N), n % 8 = 0 → q.val = 2048 * p.val + 512 * (n / 8) + r.val →
      (outsAt0 m c n h).2.2.2 (ix3 p r k) = m ((c : Thread nD τ).loc main_arg1) (ix2 k q) := fun n h h0 hq => by
    rw [show outsAt0 m c n h = _ from outsAt0_A m c ⟨n, h⟩ h0 (by show ¬1 ≤ n % 8; omega)]
    frame_out
    canon_tiles x hx
    · have hp : p.val = 2 + (x 0).val := hx0
      have hx : x = ix3 0 r k := by
        funext a
        fin_cases a
        · exact Fin.ext (by show (x 0).val = 0; omega)
        · exact Fin.ext hx1.symm
        · exact Fin.ext hx2.symm
      rw [hx, weights2_apply]
      exact weights2_block m c ⟨n, h⟩ r k q (by show q.val = 4096 + 512 * (n / 8) + r.val; omega)
    · have hp : p.val = 1 + (x 0).val := hx0
      have hx : x = ix3 0 r k := by
        funext a
        fin_cases a
        · exact Fin.ext (by show (x 0).val = 0; omega)
        · exact Fin.ext hx1.symm
        · exact Fin.ext hx2.symm
      rw [hx, weights1_apply]
      exact weights1_block m c ⟨n, h⟩ r k q (by show q.val = 2048 + 512 * (n / 8) + r.val; omega)
    · have hp : p.val = (x 0).val := hx0
      have hx : x = ix3 0 r k := by
        funext a
        fin_cases a
        · exact Fin.ext (by show (x 0).val = 0; omega)
        · exact Fin.ext hx1.symm
        · exact Fin.ext hx2.symm
      rw [hx, weights0_apply]
      exact weights0_block m c ⟨n, h⟩ r k q (by show q.val = 512 * (n / 8) + r.val; omega)
  induction n with
  | zero => exact first 0 h rfl hq
  | succ n ih =>
    by_cases h0 : (n + 1) % 8 = 0
    · exact first (n + 1) h h0 hq
    · rw [show outsAt0 m c (n + 1) h = _ from outsAt0_B m c ⟨n + 1, h⟩ h0 (by show 1 ≤ (n + 1) % 8; omega)]
      frame_out
      exact ih _ (by omega)

/-- The rows that a point holds: eight of the block before it, and its own 1024. -/
def rows (x : Vec Ideal S1024x2048 .bf16) (a b : Vec Ideal S1x512x2048 .bf16) (z : Vec Ideal S8x512 .f32) :
    Vec Ideal S1032x512 .f32 :=
  View.canon [⟨Rect.unit ![8, 0] S1024x512.size inb_S1032x512_S1024x512_8_0, k0_pay8 (F := Ideal) x a b⟩,
    ⟨Rect.unit ![0, 0] S8x512.size inb_S1032x512_S8x512_0_0, z⟩]

/-- The first rows are the ones of the block before. -/
theorem rows_before (x : Vec Ideal S1024x2048 .bf16) (a b : Vec Ideal S1x512x2048 .bf16) (z : Vec Ideal S8x512 .f32)
    (p : Fin 1032) (l : Fin 512) (r : Fin 8) (h : p.val = r.val) : rows x a b z (ix2 p l) = z (ix2 r l) := by
  unfold rows
  canon_tiles y hy using View.cover_of_tiledBy _ ![8, 512] (by sl_kernel_rfl) _
  · exact absurd (show p.val = 8 + (y 0).val from hy0) (by omega)
  · refine congrArg z ?_
    funext e
    fin_cases e
    · exact Fin.ext (by have : p.val = (y 0).val := hy0; show (y 0).val = r.val; omega)
    · exact Fin.ext hy1.symm

/-- The other rows are the products of the block. -/
theorem rows_own (x : Vec Ideal S1024x2048 .bf16) (a b : Vec Ideal S1x512x2048 .bf16) (z : Vec Ideal S8x512 .f32)
    (p : Fin 1032) (l : Fin 512) (r : Fin 1024) (h : p.val = 8 + r.val) :
    rows x a b z (ix2 p l) = k0_pay8 (F := Ideal) x a b (ix2 r l) := by
  unfold rows
  canon_tiles y hy using View.cover_of_tiledBy _ ![8, 512] (by sl_kernel_rfl) _
  · refine congrArg (k0_pay8 (F := Ideal) x a b) ?_
    funext e
    fin_cases e
    · exact Fin.ext (by have : p.val = 8 + (y 0).val := hy0; show (y 0).val = r.val; omega)
    · exact Fin.ext hy1.symm
  · have := (y 0).isLt
    exact absurd (show p.val = (y 0).val from hy0) (by have : (y 0).val < 8 := (y 0).isLt; omega)

/-- What a point computes, over weights that hold the array's values: the rows it holds and its block of the result. -/
theorem point_over (c : Dev nD) (t : Fin cfg0.N) : ∃ (w a b : Vec Ideal S1x512x2048 .bf16) (z : Vec Ideal S8x512 .f32),
    (∀ (r : Fin 512) (k : Fin 2048) (q : Fin 15696), q.val = 512 * (t.val / 8) + r.val →
        w (ix3 0 r k) = m ((c : Thread nD τ).loc main_arg1) (ix2 k q))
      ∧ (∀ (r : Fin 512) (k : Fin 2048) (q : Fin 15696), q.val = 2048 + 512 * (t.val / 8) + r.val →
        a (ix3 0 r k) = m ((c : Thread nD τ).loc main_arg1) (ix2 k q))
      ∧ (∀ (r : Fin 512) (k : Fin 2048) (q : Fin 15696), q.val = 4096 + 512 * (t.val / 8) + r.val →
        b (ix3 0 r k) = m ((c : Thread nD τ).loc main_arg1) (ix2 k q))
      ∧ (t.val % 8 = 0 → ∀ (r : Fin 8) (l : Fin 512), z (ix2 r l) = 0)
      ∧ (¬t.val % 8 = 0 → ∀ (r : Fin 8) (l : Fin 512), z (ix2 r l)
          = (outsAt0 m c (t.val - 1) (Nat.lt_of_le_of_lt (Nat.sub_le _ _) t.isLt)).2.2.1 (ix2 ⟨1024 + r.val, by omega⟩ l))
      ∧ (outsAt0 m c t.val t.isLt).2.2.1 = rows (iblk m c 0 t) a b z
      ∧ (outsAt0 m c t.val t.isLt).1 = k0_pay1 (iblk m c 0 t) (iblk m c 4 t)
          (k0_pay9 (iblk m c 4 t)
            (View.ld (rows (iblk m c 0 t) a b z) (Rect.unit ![6, 0] ![1024, 512] inb_S1032x512_S1024x512_6_0)))
          (View.ld (rows (iblk m c 0 t) a b z) (Rect.unit ![7, 0] ![1024, 512] inb_S1032x512_S1024x512_7_0))
          (k0_pay10 (iblk m c 4 t)) (k0_pay8 (iblk m c 0 t) a b) w := by
  by_cases h : t.val % 8 = 0
  · refine ⟨k0_pay3 (X0_1 m c t), k0_pay4 (X0_2 m c t), k0_pay5 (X0_3 m c t), k0_pay6 (F := Ideal),
      fun r k q hq => by rw [weights0_apply, weights0_block m c t r k q hq],
      fun r k q hq => by rw [weights1_apply, weights1_block m c t r k q hq],
      fun r k q hq => by rw [weights2_apply, weights2_block m c t r k q hq],
      fun _ r l => zeros_apply r l, fun hn => absurd h hn, ?_, ?_⟩
    · rw [outsAt0_A m c t h (by omega)]
      frame_open
      simp (disch := decide) only [↓ View.readCov_skip, ↓ View.readCov_cons_toLoadRect, ↓ View.readCov_fill]
      frame_out
    · rw [outsAt0_A m c t h (by omega)]
      frame_open
      simp (disch := decide) only [↓ View.readCov_skip, ↓ View.readCov_cons_toLoadRect, ↓ View.readCov_fill]
      frame_out
      simp only [View.readCov_eq_canon']
  · refine ⟨View.ld (outsAt0 m c (t.val - 1) (Nat.lt_of_le_of_lt (Nat.sub_le _ _) t.isLt)).2.2.2
        (Rect.unit ![0, 0, 0] ![1, 512, 2048] inb_S3x512x2048_S1x512x2048_0_0_0),
      View.ld (outsAt0 m c (t.val - 1) (Nat.lt_of_le_of_lt (Nat.sub_le _ _) t.isLt)).2.2.2
        (Rect.unit ![1, 0, 0] ![1, 512, 2048] inb_S3x512x2048_S1x512x2048_1_0_0),
      View.ld (outsAt0 m c (t.val - 1) (Nat.lt_of_le_of_lt (Nat.sub_le _ _) t.isLt)).2.2.2
        (Rect.unit ![2, 0, 0] ![1, 512, 2048] inb_S3x512x2048_S1x512x2048_2_0_0),
      k0_pay7 (View.ld (outsAt0 m c (t.val - 1) (Nat.lt_of_le_of_lt (Nat.sub_le _ _) t.isLt)).2.2.1
        (Rect.unit ![1024, 0] ![8, 512] inb_S1032x512_S8x512_1024_0)),
      fun r k q hq => ?_, fun r k q hq => ?_, fun r k q hq => ?_, fun h0 => absurd h0 h, fun _ r l => ?_, ?_, ?_⟩
    · refine (View.ld_unit_apply_of _ _ _ _ _ (ix3 0 r k) fun a => ?_).trans (weights_carried m c _ _ 0 r k q (by show q.val = 2048 * 0 + _ + _; omega))
      fin_cases a <;> simp
    · refine (View.ld_unit_apply_of _ _ _ _ _ (ix3 1 r k) fun a => ?_).trans (weights_carried m c _ _ 1 r k q (by show q.val = 2048 * 1 + _ + _; omega))
      fin_cases a <;> simp
    · refine (View.ld_unit_apply_of _ _ _ _ _ (ix3 2 r k) fun a => ?_).trans (weights_carried m c _ _ 2 r k q (by show q.val = 2048 * 2 + _ + _; omega))
      fin_cases a <;> simp
    · rw [carried_apply]
      refine View.ld_unit_apply_of _ _ _ _ _ (ix2 ⟨1024 + r.val, by omega⟩ l) fun a => ?_
      fin_cases a <;> simp
    · rw [outsAt0_B m c t h (by omega)]
      frame_open
      simp (disch := decide) only [↓ View.readCov_skip, ↓ View.readCov_cons_toLoadRect, ↓ View.readCov_fill]
      frame_out
      simp only [read_unread_whole]
    · rw [outsAt0_B m c t h (by omega)]
      frame_open
      simp (disch := decide) only [↓ View.readCov_skip, ↓ View.readCov_cons_toLoadRect, ↓ View.readCov_fill]
      frame_out
      simp only [read_unread_whole, View.readCov_eq_canon']

/-- A point's products are the reference's, one row after another. -/
theorem product_eq (c : Dev nD) (t : Fin cfg0.N) (a b : Vec Ideal S1x512x2048 .bf16)
    (ha : ∀ (r : Fin 512) (k : Fin 2048) (q : Fin 15696), q.val = 2048 + 512 * (t.val / 8) + r.val →
        a (ix3 0 r k) = m ((c : Thread nD τ).loc main_arg1) (ix2 k q))
    (hb : ∀ (r : Fin 512) (k : Fin 2048) (q : Fin 15696), q.val = 4096 + 512 * (t.val / 8) + r.val →
        b (ix3 0 r k) = m ((c : Thread nD τ).loc main_arg1) (ix2 k q))
    (r : Fin 1024) (l : Fin 512) (i : Fin 8192) (q : Fin 2048) (hi : i.val = 1024 * (t.val % 8) + r.val)
    (hq : q.val = 512 * (t.val / 8) + l.val) :
    k0_pay8 (iblk m c 0 t) a b (ix2 r l)
      = ConvRefIdeal.Read.val_main_v6 (F := Ideal) (m ((c : Thread nD τ).loc main_arg0)) (m ((c : Thread nD τ).loc main_arg1))
          (ix2 i q) := by
  have hx := idx t
  have e0 : ∀ j : Fin 2048, (iblk m c 0 t : Vec Ideal S1024x2048 .bf16) (ix2 r j)
      = m ((c : Thread nD τ).loc main_arg0) (ix2 i j) := fun j => by blk_ext! [iblk, V, hx]
  rw [product_apply, ConvRefIdeal.Rows.product_apply, ConvRefIdeal.Rows.projection_apply, ConvRefIdeal.Rows.projection_apply]
  have ga : ∀ k : Fin 2048, a (ix3 0 l k) = m ((c : Thread nD τ).loc main_arg1) (ix2 k ⟨2048 + q.val, by omega⟩) :=
    fun k => ha l k _ (by show 2048 + q.val = _; omega)
  have gb : ∀ k : Fin 2048, b (ix3 0 l k) = m ((c : Thread nD τ).loc main_arg1) (ix2 k ⟨4096 + q.val, by omega⟩) :=
    fun k => hb l k _ (by show 4096 + q.val = _; omega)
  simp only [e0, ga, gb]

/-- From the sixth on, the rows that a point holds are those of the reference's padded product. -/
theorem rows_carried (c : Dev nD) (n : ℕ) (h : n < cfg0.N) (p : Fin 1032) (l : Fin 512) (e : Fin 8194) (q : Fin 2048)
    (hp : 6 ≤ p.val) (he : e.val + 6 = 1024 * (n % 8) + p.val) (hq : q.val = 512 * (n / 8) + l.val) :
    (outsAt0 m c n h).2.2.1 (ix2 p l)
      = ConvRefIdeal.Read.val_main_v7 (F := Ideal) (m ((c : Thread nD τ).loc main_arg0)) (m ((c : Thread nD τ).loc main_arg1))
          (ix2 e q) := by
  induction n generalizing p with
  | zero =>
    obtain ⟨w, a, b, z, -, ha, hb, hz, -, hs, -⟩ := point_over m c ⟨0, h⟩
    rw [show (outsAt0 m c 0 h).2.2.1 = _ from hs]
    by_cases hp8 : p.val < 8
    · rw [rows_before _ _ _ _ p l ⟨p.val, hp8⟩ rfl, hz rfl, ConvRefIdeal.Rows.padded_before _ _ e q (by omega)]
    · rw [rows_own _ _ _ _ p l ⟨p.val - 8, by omega⟩ (by show p.val = 8 + (p.val - 8); omega),
        ConvRefIdeal.Rows.padded_after _ _ e q ⟨e.val - 2, by omega⟩ (by show e.val = 2 + (e.val - 2); omega)]
      exact product_eq m c ⟨0, h⟩ a b ha hb _ l _ q (by show e.val - 2 = 1024 * (0 % 8) + (p.val - 8); omega) hq
  | succ n ih =>
    obtain ⟨w, a, b, z, -, ha, hb, hz, hc, hs, -⟩ := point_over m c ⟨n + 1, h⟩
    rw [show (outsAt0 m c (n + 1) h).2.2.1 = _ from hs]
    by_cases hp8 : p.val < 8
    · rw [rows_before _ _ _ _ p l ⟨p.val, hp8⟩ rfl]
      by_cases h0 : (n + 1) % 8 = 0
      · rw [hz h0, ConvRefIdeal.Rows.padded_before _ _ e q (by omega)]
      · rw [hc h0]
        exact ih _ ⟨1024 + p.val, by omega⟩ (by show 6 ≤ 1024 + p.val; omega)
          (by show e.val + 6 = 1024 * (n % 8) + (1024 + p.val); omega) (by omega)
    · rw [rows_own _ _ _ _ p l ⟨p.val - 8, by omega⟩ (by show p.val = 8 + (p.val - 8); omega),
        ConvRefIdeal.Rows.padded_after _ _ e q ⟨e.val - 2, by omega⟩ (by show e.val = 2 + (e.val - 2); omega)]
      exact product_eq m c ⟨n + 1, h⟩ a b ha hb _ l _ q (by show e.val - 2 = 1024 * ((n + 1) % 8) + (p.val - 8); omega) hq

theorem out_eq (c : Dev nD) (t : Fin cfg0.N) (r : Fin 1024) (l : Fin 512) (i : Fin 8192) (q : Fin 2048)
    (hi : i.val = 1024 * (t.val % 8) + r.val) (hq : q.val = 512 * (t.val / 8) + l.val) :
    (outsAt0 m c t.val t.isLt).1 (ix2 r l)
      = ConvRefIdeal.Read.val_main_v29 (F := Ideal) (m ((c : Thread nD τ).loc main_arg0)) (m ((c : Thread nD τ).loc main_arg1))
          (m ((c : Thread nD τ).loc main_arg2)) (ix2 i q) := by
  have hx := idx t
  have e0 : ∀ j : Fin 2048, (iblk m c 0 t : Vec Ideal S1024x2048 .bf16) (ix2 r j)
      = m ((c : Thread nD τ).loc main_arg0) (ix2 i j) := fun j => by blk_ext! [iblk, V, hx]
  have e4 : ∀ p : Fin 3, (iblk m c 4 t : Vec Ideal S3x512 .f32) (ix2 p l)
      = m ((c : Thread nD τ).loc main_arg2) (ix2 p q) := fun p => by blk_ext! [iblk, V, hx]
  obtain ⟨w, a, b, z, hw, ha, hb, -, -, hs, ho⟩ := point_over m c t
  have tap : ∀ (o : ℕ) (inb) (p : Fin 1032) (e : Fin 8194), 6 ≤ p.val → p.val = o + r.val → e.val + 6 = 1024 * (t.val % 8) + p.val →
      View.ld (rows (iblk m c 0 t) a b z) (Rect.unit ![o, 0] ![1024, 512] inb) (ix2 r l)
        = ConvRefIdeal.Read.val_main_v7 (F := Ideal) (m ((c : Thread nD τ).loc main_arg0)) (m ((c : Thread nD τ).loc main_arg1))
            (ix2 e q) := fun o inb p e hp hpo he => by
    refine (View.ld_unit_apply_of _ _ _ _ _ (ix2 p l) fun d => ?_).trans ?_
    · fin_cases d
      · exact hpo
      · exact (Nat.zero_add _).symm
    · rw [← hs]
      exact rows_carried m c _ _ p l e q hp he hq
  have gw : ∀ k : Fin 2048, w (ix3 0 l k) = m ((c : Thread nD τ).loc main_arg1) (ix2 k ⟨q.val, by omega⟩) :=
    fun k => hw l k _ hq
  rw [ho, out_apply, ConvRefIdeal.Rows.result_apply, ConvRefIdeal.Rows.projection_apply,
    tap 6 _ ⟨6 + r.val, by omega⟩ ⟨i.val, by omega⟩ (by show 6 ≤ 6 + r.val; omega) rfl (by show i.val + 6 = _ + (6 + r.val); omega),
    tap 7 _ ⟨7 + r.val, by omega⟩ ⟨1 + i.val, by omega⟩ (by show 6 ≤ 7 + r.val; omega) rfl (by show 1 + i.val + 6 = _ + (7 + r.val); omega),
    product_eq m c t a b ha hb r l i q hi hq, ConvRefIdeal.Rows.padded_after _ _ ⟨2 + i.val, by omega⟩ q i rfl]
  simp only [e0, e4, gw]

/-- A point's block of the second result. -/
theorem side_eq (c : Dev nD) (t : Fin cfg0.N) : (outsAt0 m c t.val t.isLt).2.1 = k0_pay2 (iblk m c 5 t) := by
  by_cases h : t.val % 8 = 0
  · rw [outsAt0_A m c t h (by omega)]
    frame_out
  · rw [outsAt0_B m c t h (by omega)]
    frame_out

theorem side_row (c : Dev nD) (t : Fin cfg0.N) (r : Fin 256) (k : Fin 2048) (q : Fin 8192) (hq : q.val = 256 * t.val + r.val) :
    (outsAt0 m c t.val t.isLt).2.1 (ix2 r k)
      = ConvRefIdeal.Read.val_main_v30 (F := Ideal) (m ((c : Thread nD τ).loc main_arg3)) (ix2 q k) := by
  have hi := idx t
  rw [side_eq m c t, side_apply, ConvRefIdeal.Rows.side_apply]
  blk_ext! [iblk, V, hi]

/-- The first array that the run leaves is the reference's first result. -/
theorem array6_eq (c : Dev nD) :
    G6 m c
      = ConvRefIdeal.Read.val_main_v29 (F := Ideal) (m ((c : Thread nD τ).loc main_arg0)) (m ((c : Thread nD τ).loc main_arg1))
          (m ((c : Thread nD τ).loc main_arg2)) := by
  funext i
  obtain ⟨a, l, rfl⟩ : ∃ (a : Fin 8192) (l : Fin 2048), i = ix2 a l := ⟨i 0, i 1, eq_ix2 i⟩
  have hN : cfg0.N = 32 := N_0
  have hp : pt6Of (ix2 a l) = a.val / 1024 + 8 * (l.val / 512) := by
    show 1 * (a.val / 1024 - 0) + 8 * (l.val / 512 - 0) = _
    omega
  have hlt : pt6Of (ix2 a l) < cfg0.N := by omega
  have hloc : loc6Of (ix2 a l) = ix2 ⟨a.val % 1024, by omega⟩ ⟨l.val % 512, by omega⟩ := by
    funext b
    fin_cases b <;> rfl
  unfold G6
  rw [dif_pos hlt, ← outsAt0_sweep m c _ hlt, hloc]
  refine out_eq m c ⟨pt6Of (ix2 a l), hlt⟩ _ _ a l ?_ ?_
  · show a.val = 1024 * (pt6Of (ix2 a l) % 8) + a.val % 1024
    omega
  · show l.val = 512 * (pt6Of (ix2 a l) / 8) + l.val % 512
    omega

/-- The second array that the run leaves is the reference's second result. -/
theorem array7_eq (c : Dev nD) :
    G7 m c = ConvRefIdeal.Read.val_main_v30 (F := Ideal) (m ((c : Thread nD τ).loc main_arg3)) := by
  funext i
  obtain ⟨a, l, rfl⟩ : ∃ (a : Fin 8192) (l : Fin 2048), i = ix2 a l := ⟨i 0, i 1, eq_ix2 i⟩
  have hN : cfg0.N = 32 := N_0
  have hp : pt7Of (ix2 a l) = a.val / 256 := by
    show 1 * (a.val / 256 - 0) + 1 * (l.val / 2048 - 0) = _
    omega
  have hlt : pt7Of (ix2 a l) < cfg0.N := by omega
  have hloc : loc7Of (ix2 a l) = ix2 ⟨a.val % 256, by omega⟩ l := by
    funext b
    fin_cases b
    · rfl
    · exact Fin.ext (Nat.mod_eq_of_lt l.isLt)
  unfold G7
  rw [dif_pos hlt, ← outsAt0_sweep m c _ hlt, hloc]
  refine side_row m c ⟨pt7Of (ix2 a l), hlt⟩ _ l a ?_
  show a.val = 256 * pt7Of (ix2 a l) + a.val % 256
  omega

end Cert.ConvIdeal.Result

end
-- ==== Proof.QlatPay.lean ====
/-
  What the stores of the query projection's kernel are worth at an index: the side array's rows, the weights that the first
  point of a column block copies, and the scaled product, with the columns split into heads and channels.
-/
module

public import proofs.«01_k».proof.Proof.Gen.QlatIdeal.Skeleton
public import proofs.«01_k».proof.Proof.Layer

@[expose] public section

noncomputable section

namespace Cert.QlatIdeal.Pay

open Idealize.ShloMosaic Cert.QlatIdeal Cert.QlatIdeal.Gen Cert.Layer
open scoped BigOperators

/-- The scale of the attention's logits, to the base two. -/
abbrev scale : EReal := Ideal.ofBits .f32 0x3DB8AA3B#32

theorem side_apply (v0 : Vec Ideal S64x8192 .f32) (r : Fin 64) (k : Fin 8192) :
    k0_pay1 (F := Ideal) v0 (ix2 r k) = v0 (ix2 r k) := by
  unfold_payloads
  pointwise

theorem weights_apply (v14 : Vec Ideal S1024x2048 .f32) (r : Fin 1024) (k : Fin 2048) :
    k0_pay2 (F := Ideal) v14 (ix2 r k) = v14 (ix2 r k) := by
  unfold_payloads
  pointwise

theorem out_apply (v6 v7 : Vec Ideal S1024x2048 .bf16) (h : Fin 4) (d : Fin 256) (s : Fin 1024) :
    k0_pay3 (F := Ideal) v6 v7 (ix3 h d s)
      = (∑ k : Fin 2048, v6 (ix2 ⟨h.val * 256 + d.val, by omega⟩ k) * v7 (ix2 s k)) * scale := by
  unfold_payloads
  pointwise [dot_S1024x2048_S1024x2048_S1024x1024_1_1_0_0_n_n]

end Cert.QlatIdeal.Pay

end
-- ==== Proof.QlatRef.lean ====
/-
  The query projection's reference at an index: the scaled product, its columns split into heads and channels, and the side
  array, cast.
-/
module

public import proofs.«01_k».proof.Proof.Gen.QlatRefIdeal.Read
public import proofs.«01_k».proof.Proof.Layer

@[expose] public section

noncomputable section

namespace Cert.QlatRefIdeal.Rows

open Idealize.ShloMosaic Cert.QlatRefIdeal Cert.QlatRefIdeal.Read Cert.Layer
open scoped BigOperators

variable (x0 : (⟨S8192x2048, .bf16⟩ : BufTy).Contents (Elt Ideal)) (x1 : (⟨S2048x15696, .f32⟩ : BufTy).Contents (Elt Ideal))
  (x2 : (⟨S2048x8192, .f32⟩ : BufTy).Contents (Elt Ideal))

/-- The scale of the attention's logits, to the base two. -/
abbrev scale : EReal := Ideal.ofBits .f32 0x3DB8AA3B#32

/-- The scaled product. -/
theorem product_apply (i : Fin 8192) (q : Fin 4096) :
    val_main_v4 (F := Ideal) x0 x1 (ix2 i q)
      = (∑ j : Fin 2048, x0 (ix2 i j) * x1 (ix2 j ⟨6144 + q.val, by omega⟩)) * scale := by
  pointwise [val_main_v4, val_main_v3, val_main_v2, val_main_v1, val_main_v0, val_main_cst,
    dot_S8192x2048_S2048x4096_S8192x4096_1_0_0_1_n_n]

/-- The first result: heads, channels, rows. -/
theorem result_apply (h : Fin 16) (d : Fin 256) (i : Fin 8192) :
    val_main_v7 (F := Ideal) x0 x1 (ix3 h d i) = val_main_v4 (F := Ideal) x0 x1 (ix2 i ⟨h.val * 256 + d.val, by omega⟩) := by
  unfold val_main_v7 val_main_v6 val_main_v5
  generalize val_main_v4 (F := Ideal) x0 x1 = w
  pointwise

/-- The second result. -/
theorem side_apply (r : Fin 2048) (k : Fin 8192) : val_main_v8 (F := Ideal) x2 (ix2 r k) = x2 (ix2 r k) := by
  unfold val_main_v8
  pointwise

end Cert.QlatRefIdeal.Rows

end
-- ==== Proof.QlatValue.lean ====
/-
  The query projection's two arrays after the run: every point reads the weights that the first point of its column block
  copied, so its block is the reference's result there, and the side array's rows are copied one block a point.
-/
module

public import proofs.«01_k».proof.Proof.Gen.QlatIdeal.Value
public import proofs.«01_k».proof.Proof.QlatPay
public import proofs.«01_k».proof.Proof.QlatRef
public import Idealize.ShloMosaic.Lib.Pipeline.ValueKit
public import Idealize.ShloMosaic.Lib.Pipeline.ReadBack

@[expose] public section

noncomputable section

namespace Cert.QlatIdeal.Result

open Idealize.ShloMosaic Idealize.ShloMosaic.TcCoe Idealize.SL.Sem Cert.QlatIdeal Cert.QlatIdeal.Gen Cert.QlatIdeal.Value
  Cert.QlatIdeal.Pay Cert.Layer
open scoped BigOperators

variable (m : (ℓ : Loc nD τ sig) → Buf (Elt Ideal) ℓ)

/-- Where the windows' blocks lie. -/
theorem idx : ∀ t : Fin cfg0.N, win0_0.index t = ![t.val % 8, 0] ∧ win0_1.index t = ![6 + t.val / 8, 0]
    ∧ win0_2.index t = ![t.val, 0] :=
  (by decide +kernel : ∀ t : Fin grid0.N, _)

/-- A row of the weights' window is a column of the input projection. -/
theorem weights_block (c : Dev nD) (t : Fin cfg0.N) (r : Fin 1024) (k : Fin 2048) (q : Fin 15696)
    (hq : q.val = 6144 + 1024 * (t.val / 8) + r.val) :
    (X0_1 m c t : Vec Ideal S1024x2048 .f32) (ix2 r k) = m ((c : Thread nD τ).loc main_arg1) (ix2 k q) := by
  have hi := idx t
  unfold X0_1 Pipeline.Window.fill
  rw [dif_pos (moved0_1 t _)]
  blk_ext! [iblk, hi]

/-- The carried weights, after any point of a column block. -/
theorem weights_carried (c : Dev nD) (n : ℕ) (h : n < cfg0.N) (r : Fin 1024) (k : Fin 2048) (q : Fin 15696)
    (hq : q.val = 6144 + 1024 * (n / 8) + r.val) :
    (outsAt0 m c n h).2.2 (ix2 r k) = m ((c : Thread nD τ).loc main_arg1) (ix2 k q) := by
  have first : ∀ n (h : n < cfg0.N), n % 8 = 0 → q.val = 6144 + 1024 * (n / 8) + r.val →
      (outsAt0 m c n h).2.2 (ix2 r k) = m ((c : Thread nD τ).loc main_arg1) (ix2 k q) := fun n h h0 hq => by
    rw [show outsAt0 m c n h = _ from outsAt0_A m c ⟨n, h⟩ h0]
    frame_out
    rw [weights_apply]
    exact weights_block m c ⟨n, h⟩ r k q hq
  induction n with
  | zero => exact first 0 h rfl hq
  | succ n ih =>
    by_cases h0 : (n + 1) % 8 = 0
    · exact first (n + 1) h h0 hq
    · rw [show outsAt0 m c (n + 1) h = _ from outsAt0_B m c ⟨n + 1, h⟩ h0]
      frame_out
      exact ih _ (by omega)

/-- A point's block of the first result, over weights that hold the array's values. -/
theorem out_over (c : Dev nD) (t : Fin cfg0.N) : ∃ w : Vec Ideal S1024x2048 .bf16,
    (∀ (r : Fin 1024) (k : Fin 2048) (q : Fin 15696), q.val = 6144 + 1024 * (t.val / 8) + r.val →
        w (ix2 r k) = m ((c : Thread nD τ).loc main_arg1) (ix2 k q))
      ∧ (outsAt0 m c t.val t.isLt).1 = k0_pay3 w (iblk m c 0 t) := by
  by_cases h : t.val % 8 = 0
  · refine ⟨k0_pay2 (X0_1 m c t), fun r k q hq => by rw [weights_apply, weights_block m c t r k q hq], ?_⟩
    rw [outsAt0_A m c t h]
    frame_out
  · refine ⟨(outsAt0 m c (t.val - 1) (Nat.lt_of_le_of_lt (Nat.sub_le _ _) t.isLt)).2.2,
      fun r k q hq => weights_carried m c _ _ r k q (by omega), ?_⟩
    rw [outsAt0_B m c t h]
    frame_out
    simp only [read_unread_whole]

/-- A point's block of the second result. -/
theorem side_eq (c : Dev nD) (t : Fin cfg0.N) : (outsAt0 m c t.val t.isLt).2.1 = k0_pay1 (iblk m c 2 t) := by
  by_cases h : t.val % 8 = 0
  · rw [outsAt0_A m c t h]
    frame_out
  · rw [outsAt0_B m c t h]
    frame_out

theorem out_eq (c : Dev nD) (t : Fin cfg0.N) (h : Fin 4) (d : Fin 256) (s : Fin 1024) (H : Fin 16) (S : Fin 8192)
    (hH : H.val = 4 * (t.val / 8) + h.val) (hS : S.val = 1024 * (t.val % 8) + s.val) :
    (outsAt0 m c t.val t.isLt).1 (ix3 h d s)
      = QlatRefIdeal.Read.val_main_v7 (F := Ideal) (m ((c : Thread nD τ).loc main_arg0)) (m ((c : Thread nD τ).loc main_arg1))
          (ix3 H d S) := by
  have hi := idx t
  have e0 : ∀ j : Fin 2048, (iblk m c 0 t : Vec Ideal S1024x2048 .bf16) (ix2 s j)
      = m ((c : Thread nD τ).loc main_arg0) (ix2 S j) := fun j => by blk_ext! [iblk, V, hi]
  obtain ⟨w, hw, ho⟩ := out_over m c t
  rw [ho, out_apply, QlatRefIdeal.Rows.result_apply, QlatRefIdeal.Rows.product_apply]
  refine congrArg (· * scale) (Finset.sum_congr rfl fun j _ => ?_)
  rw [e0, hw _ j ⟨6144 + (H.val * 256 + d.val), by omega⟩ (by show 6144 + (H.val * 256 + d.val) = 6144 + 1024 * (t.val / 8) + (h.val * 256 + d.val); omega)]
  exact mul_comm _ _

theorem side_row (c : Dev nD) (t : Fin cfg0.N) (r : Fin 64) (k : Fin 8192) (q : Fin 2048) (hq : q.val = 64 * t.val + r.val) :
    (outsAt0 m c t.val t.isLt).2.1 (ix2 r k)
      = QlatRefIdeal.Read.val_main_v8 (F := Ideal) (m ((c : Thread nD τ).loc main_arg2)) (ix2 q k) := by
  have hi := idx t
  rw [side_eq m c t, side_apply, QlatRefIdeal.Rows.side_apply]
  blk_ext! [iblk, V, hi]

/-- The first array that the run leaves is the reference's first result. -/
theorem array3_eq (c : Dev nD) :
    G3 m c
      = QlatRefIdeal.Read.val_main_v7 (F := Ideal) (m ((c : Thread nD τ).loc main_arg0)) (m ((c : Thread nD τ).loc main_arg1)) := by
  funext i
  obtain ⟨h, d, s, rfl⟩ : ∃ (h : Fin 16) (d : Fin 256) (s : Fin 8192), i = ix3 h d s := ⟨i 0, i 1, i 2, eq_ix3 i⟩
  have hN : cfg0.N = 32 := N_0
  have hp : pt3Of (ix3 h d s) = 8 * (h.val / 4) + s.val / 1024 := by
    show 8 * (h.val / 4 - 0) + 8 * (d.val / 256 - 0) + 1 * (s.val / 1024 - 0) = _
    omega
  have hlt : pt3Of (ix3 h d s) < cfg0.N := by omega
  have hloc : loc3Of (ix3 h d s) = ix3 ⟨h.val % 4, by omega⟩ d ⟨s.val % 1024, by omega⟩ := by
    funext b
    fin_cases b
    · rfl
    · exact Fin.ext (Nat.mod_eq_of_lt d.isLt)
    · rfl
  unfold G3
  rw [dif_pos hlt, ← outsAt0_sweep m c _ hlt, hloc]
  refine out_eq m c ⟨pt3Of (ix3 h d s), hlt⟩ _ d _ h s ?_ ?_
  · show h.val = 4 * (pt3Of (ix3 h d s) / 8) + h.val % 4
    omega
  · show s.val = 1024 * (pt3Of (ix3 h d s) % 8) + s.val % 1024
    omega

/-- The second array that the run leaves is the reference's second result. -/
theorem array4_eq (c : Dev nD) :
    G4 m c = QlatRefIdeal.Read.val_main_v8 (F := Ideal) (m ((c : Thread nD τ).loc main_arg2)) := by
  funext i
  obtain ⟨a, l, rfl⟩ : ∃ (a : Fin 2048) (l : Fin 8192), i = ix2 a l := ⟨i 0, i 1, eq_ix2 i⟩
  have hN : cfg0.N = 32 := N_0
  have hp : pt4Of (ix2 a l) = a.val / 64 := by
    show 1 * (a.val / 64 - 0) + 1 * (l.val / 8192 - 0) = _
    omega
  have hlt : pt4Of (ix2 a l) < cfg0.N := by omega
  have hloc : loc4Of (ix2 a l) = ix2 ⟨a.val % 64, by omega⟩ l := by
    funext b
    fin_cases b
    · rfl
    · exact Fin.ext (Nat.mod_eq_of_lt l.isLt)
  unfold G4
  rw [dif_pos hlt, ← outsAt0_sweep m c _ hlt, hloc]
  refine side_row m c ⟨pt4Of (ix2 a l), hlt⟩ _ l a ?_
  show a.val = 64 * pt4Of (ix2 a l) + a.val % 64
  omega

end Cert.QlatIdeal.Result

end
-- ==== Proof.IdxPay.lean ====
/-
  What the stores of the index projection's kernel are worth at an index: the rounded input, the weights that the first point
  copies, the normalised latents, and the indexer's keys, queries and head weights, keys and queries in three parts.
-/
module

public import proofs.«01_k».proof.Proof.Gen.IdxIdeal.Skeleton
public import proofs.«01_k».proof.Proof.Layer

@[expose] public section

noncomputable section

namespace Cert.IdxIdeal.Pay

open Idealize.ShloMosaic Cert.IdxIdeal Cert.IdxIdeal.Gen Cert.Layer
open scoped BigOperators

theorem copy_apply (v3 : Vec Ideal S512x2048 .f32) (r : Fin 512) (k : Fin 2048) :
    k0_pay4 (F := Ideal) v3 (ix2 r k) = v3 (ix2 r k) := by
  unfold_payloads
  pointwise

theorem weights_apply (v46 : Vec Ideal S1408x2048 .f32) (r : Fin 1408) (k : Fin 2048) :
    k0_pay3 (F := Ideal) v46 (ix2 r k) = v46 (ix2 r k) := by
  unfold_payloads
  pointwise

theorem latent_apply (v3 : Vec Ideal S512x2048 .f32) (v6 : Vec Ideal S256x2048 .bf16) (v18 : Vec Ideal S1x256 .f32)
    (r : Fin 512) (q : Fin 256) :
    k0_pay5 (F := Ideal) v3 v6 v18 (ix2 r q)
      = rms (fun q => ∑ k : Fin 2048, v3 (ix2 r k) * v6 (ix2 q k)) (v18 (ix2 0 q)) q := by
  unfold_payloads
  pointwise [dot_S512x2048_S256x2048_S512x256_1_1_0_0_n_n]
  rfl

theorem key_apply (v3 : Vec Ideal S512x2048 .f32) (v24 : Vec Ideal S64x2048 .bf16) (r : Fin 512) (q : Fin 192) :
    k0_pay6 (F := Ideal) v3 v24 (ix2 r q)
      = keyParts (fun q => ∑ k : Fin 2048, v3 (ix2 r k) * v24 (ix2 q k)) q := by
  unfold_payloads
  pointwise [dot_S512x2048_S64x2048_S512x64_1_1_0_0_n_n]
  rfl

theorem query_apply (v4 : Vec Ideal S512x2048 .bf16) (v32 : Vec Ideal S1024x2048 .bf16) (h : Fin 16) (q : Fin 192) (s : Fin 512) :
    k0_pay1 (F := Ideal) v4 v32 (ix3 h q s)
      = queryParts (fun q => ∑ k : Fin 2048, v32 (ix2 ⟨h.val * 64 + q.val, by omega⟩ k) * v4 (ix2 s k)) q := by
  unfold_payloads
  pointwise [dot_S1024x2048_S512x2048_S1024x512_1_1_0_0_n_n]
  rfl

theorem head_apply (v4 : Vec Ideal S512x2048 .bf16) (v41 : Vec Ideal S16x2048 .bf16) (h : Fin 16) (s : Fin 512) :
    k0_pay2 (F := Ideal) v4 v41 (ix2 h s)
      = (∑ k : Fin 2048, v41 (ix2 h k) * v4 (ix2 s k)) * headScale := by
  unfold_payloads
  pointwise [dot_S16x2048_S512x2048_S16x512_1_1_0_0_n_n]

end Cert.IdxIdeal.Pay

end
-- ==== Proof.IdxRef.lean ====
/-
  The index projection's reference at an index: the rounded input, the normalised latents, and the indexer's keys, queries and
  head weights.
-/
module

public import proofs.«01_k».proof.Proof.Gen.IdxRefIdeal.Read
public import proofs.«01_k».proof.Proof.Layer

@[expose] public section

noncomputable section

namespace Cert.IdxRefIdeal.Rows

open Idealize.ShloMosaic Cert.IdxRefIdeal Cert.IdxRefIdeal.Read Cert.Layer
open scoped BigOperators

variable (x0 : (⟨S8192x2048, .f32⟩ : BufTy).Contents (Elt Ideal)) (x1 : (⟨S2048x15696, .f32⟩ : BufTy).Contents (Elt Ideal))
  (x2 : (⟨S256, .f32⟩ : BufTy).Contents (Elt Ideal))

/-- The product. -/
theorem product_apply (i : Fin 8192) (q : Fin 1360) :
    val_main_v1 (F := Ideal) x0 x1 (ix2 i q) = ∑ j : Fin 2048, x0 (ix2 i j) * x1 (ix2 j ⟨10240 + q.val, by omega⟩) := by
  pointwise [val_main_v1, val_main_v0, dot_S8192x2048_S2048x1360_S8192x1360_1_0_0_1_n_n]

/-- The first result. -/
theorem copy_apply (i : Fin 8192) (k : Fin 2048) : val_main_v15 (F := Ideal) x0 (ix2 i k) = x0 (ix2 i k) := by
  unfold val_main_v15
  pointwise

/-- The second result: the latents. -/
theorem latent_apply (i : Fin 8192) (q : Fin 256) :
    val_main_v29 (F := Ideal) x0 x1 x2 (ix2 i q)
      = rms (fun q => val_main_v1 (F := Ideal) x0 x1 (ix2 i ⟨q.val, by omega⟩)) (x2 (ix1 q)) q := by
  unfold val_main_v29 val_main_v28 val_main_v25 val_main_v24 val_main_v23 val_main_v22 val_main_v20 val_main_v18 val_main_v17
    val_main_v16 val_main_v2
  generalize val_main_v1 (F := Ideal) x0 x1 = w
  pointwise [val_main_v27, val_main_v26, val_main_v21, val_main_v19, val_main_cst, val_main_cst_0, val_main_cst_1]
  rfl

/-- The third result: the keys. -/
theorem key_apply (i : Fin 8192) (q : Fin 192) :
    val_main_v30 (F := Ideal) x0 x1 (ix2 i q)
      = keyParts (fun q => val_main_v1 (F := Ideal) x0 x1 (ix2 i ⟨1280 + q.val, by omega⟩)) q := by
  unfold val_main_v30 val_main_v10 val_main_v9 val_main_v8 val_main_v7 val_main_v4
  generalize val_main_v1 (F := Ideal) x0 x1 = w
  pointwise
  rfl

/-- The fourth result: the queries. -/
theorem query_apply (h : Fin 16) (q : Fin 192) (i : Fin 8192) :
    val_main_v32 (F := Ideal) x0 x1 (ix3 h q i)
      = queryParts (fun q => val_main_v1 (F := Ideal) x0 x1 (ix2 i ⟨256 + (h.val * 64 + q.val), by omega⟩)) q := by
  unfold val_main_v32 val_main_v31 val_main_v14 val_main_v13 val_main_v12 val_main_v11 val_main_v6 val_main_v3
  generalize val_main_v1 (F := Ideal) x0 x1 = w
  pointwise
  rfl

/-- The fifth result: the head weights. -/
theorem head_apply (h : Fin 16) (i : Fin 8192) :
    val_main_v35 (F := Ideal) x0 x1 (ix2 h i)
      = val_main_v1 (F := Ideal) x0 x1 (ix2 i ⟨1344 + h.val, by omega⟩) * headScale := by
  unfold val_main_v35 val_main_v34 val_main_v5
  generalize val_main_v1 (F := Ideal) x0 x1 = w
  pointwise [val_main_v33, val_main_cst_2]

end Cert.IdxRefIdeal.Rows

end
-- ==== Proof.IdxValue.lean ====
/-
  The index projection's five arrays after the run: every point reads the weights that the first point copied, so its blocks
  are the reference's results at its rows.
-/
module

public import proofs.«01_k».proof.Proof.Gen.IdxIdeal.Frame
public import proofs.«01_k».proof.Proof.IdxPay
public import proofs.«01_k».proof.Proof.IdxRef
public import Idealize.ShloMosaic.Lib.Pipeline.Value
public import Idealize.ShloMosaic.Lib.Pipeline.ValueKit
public import Idealize.ShloMosaic.Lib.Pipeline.ReadBack

@[expose] public section

noncomputable section

namespace Cert.IdxIdeal.Result

open Idealize.ShloMosaic Idealize.ShloMosaic.TcCoe Idealize.SL.Sem Cert.IdxIdeal Cert.IdxIdeal.Gen Cert.IdxIdeal.Pay Cert.Layer
open scoped BigOperators

variable (m : (ℓ : Loc nD τ sig) → Buf (Elt Ideal) ℓ) (ρ : Dev nD → PrngReg)

/-- Where the windows' blocks lie; the weights are found by element. -/
theorem idx : ∀ t : Fin cfg0.N, win0_0.index t = ![t.val, 0] ∧ win0_1.index t = ![10240, 0] ∧ win0_2.index t = ![0, 0]
    ∧ win0_3.index t = ![t.val, 0] ∧ win0_4.index t = ![t.val, 0] ∧ win0_5.index t = ![t.val, 0]
    ∧ win0_6.index t = ![0, 0, t.val] ∧ win0_7.index t = ![0, t.val] :=
  (by decide +kernel : ∀ t : Fin grid0.N, _)

/-- A row of the weights' window is a column of the input projection. -/
theorem weights_block (c : Dev nD) (t : Fin cfg0.N) (r : Fin 1408) (k : Fin 2048) (q : Fin 15696) (hq : q.val = 10240 + r.val) :
    (iblk m c 1 t : Vec Ideal S1408x2048 .f32) (ix2 r k) = m ((c : Thread nD τ).loc main_arg1) (ix2 k q) := by
  have hi := idx t
  blk_ext! [iblk, hi]
  · exact (Pipeline.Window.rect_emb_val_off win0_1 t (ix2 r k) 1).trans (by rw [hi.2.1]; exact Nat.zero_add _)
  · exact (Pipeline.Window.rect_emb_val_off win0_1 t (ix2 r k) 0).trans (by rw [hi.2.1]; exact hq.symm)

/-- The carried weights, after any point. -/
theorem weights_carried (c : Dev nD) (n : ℕ) (h : n < cfg0.N) (r : Fin 1408) (k : Fin 2048) (q : Fin 15696)
    (hq : q.val = 10240 + r.val) :
    (outsAt0 m c n h).2.2.2.2.2 (ix2 r k) = m ((c : Thread nD τ).loc main_arg1) (ix2 k q) := by
  have hN : cfg0.N = 16 := N_0
  induction n with
  | zero =>
    rw [show outsAt0 m c 0 h = _ from outsAt0_A m c ⟨0, h⟩ rfl]
    frame_out
    rw [weights_apply]
    exact weights_block m c ⟨0, h⟩ r k q hq
  | succ n ih =>
    rw [show outsAt0 m c (n + 1) h = _ from outsAt0_B m c ⟨n + 1, h⟩ (by show ¬ (n + 1) % 16 = 0; omega)]
    frame_out
    exact ih _

/-- A part of a scratch that one store has filled. -/
theorem load_filled (w : Vec Ideal S1408x2048 .bf16) (r : Rect S1408x2048) :
    (View.whole cc0_scratch0).readCov [(⟨Rect.unit ![0, 0] S1408x2048.size inb_S1408x2048_S1408x2048_0_0, w⟩ : View.Piece (Elt Ideal) S1408x2048 .bf16)]
      r.toLoadRect = View.ld w r := by
  rw [View.readCov_eq_canon']
  exact congrArg (fun f => View.ld f r) (View.canon_cons_unit_lit (S := S1408x2048) inb_S1408x2048_S1408x2048_0_0 w [] (by decide))

/-- A point's blocks, over weights that hold the array's values. -/
theorem out_over (c : Dev nD) (t : Fin cfg0.N) : ∃ w : Vec Ideal S1408x2048 .bf16,
    (∀ (r : Fin 1408) (k : Fin 2048) (q : Fin 15696), q.val = 10240 + r.val →
        w (ix2 r k) = m ((c : Thread nD τ).loc main_arg1) (ix2 k q))
      ∧ (outsAt0 m c t.val t.isLt).1 = k0_pay4 (iblk m c 0 t)
      ∧ (outsAt0 m c t.val t.isLt).2.1
          = k0_pay5 (iblk m c 0 t) (View.ld w (Rect.unit ![0, 0] S256x2048.size inb_S1408x2048_S256x2048_0_0)) (iblk m c 2 t)
      ∧ (outsAt0 m c t.val t.isLt).2.2.1
          = k0_pay6 (iblk m c 0 t) (View.ld w (Rect.unit ![1280, 0] S64x2048.size inb_S1408x2048_S64x2048_1280_0))
      ∧ (outsAt0 m c t.val t.isLt).2.2.2.1
          = k0_pay1 (k0_pay4 (iblk m c 0 t)) (View.ld w (Rect.unit ![256, 0] S1024x2048.size inb_S1408x2048_S1024x2048_256_0))
      ∧ (outsAt0 m c t.val t.isLt).2.2.2.2.1
          = k0_pay2 (k0_pay4 (iblk m c 0 t)) (View.ld w (Rect.unit ![1344, 0] S16x2048.size inb_S1408x2048_S16x2048_1344_0)) := by
  by_cases h : t.val % 16 = 0
  · refine ⟨k0_pay3 (iblk m c 1 t), fun r k q hq => by rw [weights_apply, weights_block m c t r k q hq], ?_, ?_, ?_, ?_, ?_⟩
    · rw [outsAt0_A m c t h]
      frame_out
    · rw [outsAt0_A m c t h]
      frame_out
      exact congrArg (fun x => k0_pay5 (iblk m c 0 t) x (iblk m c 2 t)) (load_filled _ _)
    · rw [outsAt0_A m c t h]
      frame_out
      exact congrArg _ (load_filled _ _)
    · rw [outsAt0_A m c t h]
      frame_out
      exact congrArg _ (load_filled _ _)
    · rw [outsAt0_A m c t h]
      frame_out
      exact congrArg _ (load_filled _ _)
  · refine ⟨(outsAt0 m c (t.val - 1) (Nat.lt_of_le_of_lt (Nat.sub_le _ _) t.isLt)).2.2.2.2.2,
      fun r k q hq => weights_carried m c _ _ r k q hq, ?_, ?_, ?_, ?_, ?_⟩
    · rw [outsAt0_B m c t h]
      frame_out
    · rw [outsAt0_B m c t h]
      frame_out
      simp only [read_unread_whole]
    · rw [outsAt0_B m c t h]
      frame_out
      simp only [read_unread_whole]
    · rw [outsAt0_B m c t h]
      frame_out
      simp only [read_unread_whole]
    · rw [outsAt0_B m c t h]
      frame_out
      simp only [read_unread_whole]

/-- Row `r` of a point's blocks is row `512·t + r` of the arrays. -/
abbrev row (t : Fin cfg0.N) (r : Fin 512) : Fin 8192 :=
  ⟨512 * t.val + r.val, by have := lt_of_lt_of_eq t.isLt (show cfg0.N = 16 from N_0); omega⟩

theorem input_block (c : Dev nD) (t : Fin cfg0.N) (r : Fin 512) (k : Fin 2048) :
    (iblk m c 0 t : Vec Ideal S512x2048 .f32) (ix2 r k) = m ((c : Thread nD τ).loc main_arg0) (ix2 (row t r) k) := by
  have hi := idx t
  blk_ext! [iblk, V, hi]

theorem gain_block (c : Dev nD) (t : Fin cfg0.N) (q : Fin 256) :
    (iblk m c 2 t : Vec Ideal S1x256 .f32) (ix2 0 q) = m ((c : Thread nD τ).loc main_arg2) (ix1 q) := by
  have hi := idx t
  blk_ext! [iblk, V, hi]

/-- A part of the weights, at a row. -/
theorem part_apply (c : Dev nD) {w : Vec Ideal S1408x2048 .bf16}
    (hw : ∀ (r : Fin 1408) (k : Fin 2048) (q : Fin 15696), q.val = 10240 + r.val →
      w (ix2 r k) = m ((c : Thread nD τ).loc main_arg1) (ix2 k q))
    (n o : ℕ) (inb : ∀ a, (![o, 0] : Fin 2 → ℕ) a + (![n, 2048] : Fin 2 → ℕ) a ≤ S1408x2048.size a) (r : Fin n) (k : Fin 2048)
    (q : Fin 15696) (hq : q.val = 10240 + (o + r.val)) (h : o + r.val < 1408) :
    View.ld w (Rect.unit ![o, 0] ![n, 2048] inb) (ix2 r k) = m ((c : Thread nD τ).loc main_arg1) (ix2 k q) := by
  refine (View.ld_unit_apply_of _ _ _ _ _ (ix2 ⟨o + r.val, h⟩ k) fun a => ?_).trans (hw _ k q hq)
  fin_cases a <;> simp

/-- A row's product with a part of the weights is the reference's. -/
theorem product_eq (c : Dev nD) (t : Fin cfg0.N) {x : Vec Ideal S512x2048 .f32} (hx : x = iblk m c 0 t)
    {w : Vec Ideal S1408x2048 .bf16}
    (hw : ∀ (r : Fin 1408) (k : Fin 2048) (q : Fin 15696), q.val = 10240 + r.val →
      w (ix2 r k) = m ((c : Thread nD τ).loc main_arg1) (ix2 k q))
    (n o : ℕ) (inb : ∀ a, (![o, 0] : Fin 2 → ℕ) a + (![n, 2048] : Fin 2 → ℕ) a ≤ S1408x2048.size a) (r : Fin 512) (q : Fin n)
    (h : o + q.val < 1360) :
    ∑ k : Fin 2048, x (ix2 r k) * View.ld w (Rect.unit ![o, 0] ![n, 2048] inb) (ix2 q k)
      = IdxRefIdeal.Read.val_main_v1 (F := Ideal) (m ((c : Thread nD τ).loc main_arg0)) (m ((c : Thread nD τ).loc main_arg1)) (ix2 (row t r) ⟨o + q.val, h⟩) := by
  subst hx
  rw [IdxRefIdeal.Rows.product_apply]
  refine Finset.sum_congr rfl fun k _ => ?_
  rw [input_block, part_apply m c hw n o inb q k ⟨10240 + (o + q.val), by omega⟩ rfl (by omega)]

theorem copy_eq (c : Dev nD) (t : Fin cfg0.N) (r : Fin 512) (k : Fin 2048) :
    (outsAt0 m c t.val t.isLt).1 (ix2 r k) = IdxRefIdeal.Read.val_main_v15 (F := Ideal) (m ((c : Thread nD τ).loc main_arg0)) (ix2 (row t r) k) := by
  obtain ⟨w, hw, h1, h2, h3, h4, h5⟩ := out_over m c t
  rw [h1, copy_apply, input_block, IdxRefIdeal.Rows.copy_apply]

theorem latent_eq (c : Dev nD) (t : Fin cfg0.N) (r : Fin 512) (q : Fin 256) :
    (outsAt0 m c t.val t.isLt).2.1 (ix2 r q) = IdxRefIdeal.Read.val_main_v29 (F := Ideal) (m ((c : Thread nD τ).loc main_arg0)) (m ((c : Thread nD τ).loc main_arg1)) (m ((c : Thread nD τ).loc main_arg2)) (ix2 (row t r) q) := by
  obtain ⟨w, hw, h1, h2, h3, h4, h5⟩ := out_over m c t
  rw [h2, latent_apply, gain_block, IdxRefIdeal.Rows.latent_apply]
  refine congrArg (fun f => rms f _ q) (funext fun q => ?_)
  rw [product_eq m c t rfl hw 256 0 _ r q (by omega)]
  exact congrArg _ (congrArg (ix2 (row t r)) (Fin.ext (Nat.zero_add _)))

theorem key_eq (c : Dev nD) (t : Fin cfg0.N) (r : Fin 512) (q : Fin 192) :
    (outsAt0 m c t.val t.isLt).2.2.1 (ix2 r q) = IdxRefIdeal.Read.val_main_v30 (F := Ideal) (m ((c : Thread nD τ).loc main_arg0)) (m ((c : Thread nD τ).loc main_arg1)) (ix2 (row t r) q) := by
  obtain ⟨w, hw, h1, h2, h3, h4, h5⟩ := out_over m c t
  rw [h3, key_apply, IdxRefIdeal.Rows.key_apply]
  exact congrArg (fun f => keyParts f q) (funext fun q => product_eq m c t rfl hw 64 1280 _ r q (by omega))

theorem query_eq (c : Dev nD) (t : Fin cfg0.N) (h : Fin 16) (q : Fin 192) (s : Fin 512) :
    (outsAt0 m c t.val t.isLt).2.2.2.1 (ix3 h q s) = IdxRefIdeal.Read.val_main_v32 (F := Ideal) (m ((c : Thread nD τ).loc main_arg0)) (m ((c : Thread nD τ).loc main_arg1)) (ix3 h q (row t s)) := by
  obtain ⟨w, hw, h1, h2, h3, h4, h5⟩ := out_over m c t
  rw [h4, query_apply, IdxRefIdeal.Rows.query_apply]
  refine congrArg (fun f => queryParts f q) (funext fun q => ?_)
  refine Eq.trans ?_ (product_eq m c t rfl hw 1024 256 inb_S1408x2048_S1024x2048_256_0 s ⟨h.val * 64 + q.val, by omega⟩ (by show 256 + (h.val * 64 + q.val) < 1360; omega))
  refine Finset.sum_congr rfl fun k _ => ?_
  rw [copy_apply]
  exact mul_comm (_ : EReal) _

theorem head_eq (c : Dev nD) (t : Fin cfg0.N) (h : Fin 16) (s : Fin 512) :
    (outsAt0 m c t.val t.isLt).2.2.2.2.1 (ix2 h s) = IdxRefIdeal.Read.val_main_v35 (F := Ideal) (m ((c : Thread nD τ).loc main_arg0)) (m ((c : Thread nD τ).loc main_arg1)) (ix2 h (row t s)) := by
  obtain ⟨w, hw, h1, h2, h3, h4, h5⟩ := out_over m c t
  rw [h5, head_apply, IdxRefIdeal.Rows.head_apply]
  refine congrArg (· * headScale) ?_
  refine Eq.trans ?_ (product_eq m c t rfl hw 16 1344 inb_S1408x2048_S16x2048_1344_0 s h (by omega))
  refine Finset.sum_congr rfl fun k _ => ?_
  rw [copy_apply]
  exact mul_comm (_ : EReal) _

/-! Every point writes its blocks back. -/

theorem flush3 : ∀ t : Fin cfg0.N, (cfg0.win 3).flush t = true :=
  (by decide +kernel : ∀ t : Fin grid0.N, win0_3.flush t = true)

theorem flush4 : ∀ t : Fin cfg0.N, (cfg0.win 4).flush t = true :=
  (by decide +kernel : ∀ t : Fin grid0.N, win0_4.flush t = true)

theorem flush5 : ∀ t : Fin cfg0.N, (cfg0.win 5).flush t = true :=
  (by decide +kernel : ∀ t : Fin grid0.N, win0_5.flush t = true)

theorem flush6 : ∀ t : Fin cfg0.N, (cfg0.win 6).flush t = true :=
  (by decide +kernel : ∀ t : Fin grid0.N, win0_6.flush t = true)

theorem flush7 : ∀ t : Fin cfg0.N, (cfg0.win 7).flush t = true :=
  (by decide +kernel : ∀ t : Fin grid0.N, win0_7.flush t = true)

theorem mem3 (t : Fin cfg0.N) (i : S8192x2048.Idx) :
    i ∈ ((cfg0.win 3).blk t).view.set
      ↔ ∀ b : Fin 2, win0_3.index t b * S512x2048.size b ≤ (i b).val ∧ (i b).val < win0_3.index t b * S512x2048.size b + S512x2048.size b := by
  show i ∈ ((View.whole main_v2_0).slice (win0_3.rect t)).set ↔ _
  rw [View.set_slice_whole, Rect.mem_set_unit]
  exact Iff.rfl

/-- The array of the rounded input after the run is the reference's. -/
theorem array3_eq (c : Dev nD) : (dats m 0 c).arrAt 3 cfg0.N = IdxRefIdeal.Read.val_main_v15 (F := Ideal) (m ((c : Thread nD τ).loc main_arg0)) := by
  refine (dats m 0 c).arrAt_eq_of_cover 3 _ (fun t _ => ?_) fun (i : S8192x2048.Idx) => ?_
  · show (cfg0.win 3).cut (grid0.coords t) ((dats m 0 c).after 3 t) = _
    rw [after0_3]
    have hi := idx t
    funext y
    obtain ⟨a, k, rfl⟩ : ∃ (a : Fin 512) (k : Fin 2048), y = ix2 a k := ⟨y 0, y 1, eq_ix2 y⟩
    refine (copy_eq m c t a k).trans (congrArg (IdxRefIdeal.Read.val_main_v15 (F := Ideal) (m ((c : Thread nD τ).loc main_arg0))) ?_)
    funext b
    fin_cases b
    · refine Fin.ext ((?_ : (512 * t.val + a.val : ℕ) = win0_3.index t (0 : Fin 2) * 512 + 1 * a.val))
      rw [hi.2.2.2.1]
      show 512 * t.val + a.val = t.val * 512 + 1 * a.val
      omega
    · refine Fin.ext ((?_ : (k.val : ℕ) = win0_3.index t (1 : Fin 2) * 2048 + 1 * k.val))
      rw [hi.2.2.2.1]
      show k.val = 0 * 2048 + 1 * k.val
      omega
  · have hN : cfg0.N = 16 := N_0
    have h0 : (i 0).val < 8192 := (i 0).isLt
    have h1 : (i 1).val < 2048 := (i 1).isLt
    refine ⟨⟨(i 0).val / 512, by omega⟩, flush3 _, (mem3 _ i).2 fun b => ?_⟩
    have hi := idx ⟨(i 0).val / 512, by omega⟩
    fin_cases b
    · show win0_3.index _ (0 : Fin 2) * 512 ≤ (i 0).val ∧ (i 0).val < win0_3.index _ (0 : Fin 2) * 512 + 512
      rw [hi.2.2.2.1]
      show (i 0).val / 512 * 512 ≤ (i 0).val ∧ (i 0).val < (i 0).val / 512 * 512 + 512
      omega
    · show win0_3.index _ (1 : Fin 2) * 2048 ≤ (i 1).val ∧ (i 1).val < win0_3.index _ (1 : Fin 2) * 2048 + 2048
      rw [hi.2.2.2.1]
      show 0 * 2048 ≤ (i 1).val ∧ (i 1).val < 0 * 2048 + 2048
      omega

theorem mem4 (t : Fin cfg0.N) (i : S8192x256.Idx) :
    i ∈ ((cfg0.win 4).blk t).view.set
      ↔ ∀ b : Fin 2, win0_4.index t b * S512x256.size b ≤ (i b).val ∧ (i b).val < win0_4.index t b * S512x256.size b + S512x256.size b := by
  show i ∈ ((View.whole main_v2_1).slice (win0_4.rect t)).set ↔ _
  rw [View.set_slice_whole, Rect.mem_set_unit]
  exact Iff.rfl

/-- The array of the latents after the run is the reference's. -/
theorem array4_eq (c : Dev nD) : (dats m 0 c).arrAt 4 cfg0.N = IdxRefIdeal.Read.val_main_v29 (F := Ideal) (m ((c : Thread nD τ).loc main_arg0)) (m ((c : Thread nD τ).loc main_arg1)) (m ((c : Thread nD τ).loc main_arg2)) := by
  refine (dats m 0 c).arrAt_eq_of_cover 4 _ (fun t _ => ?_) fun (i : S8192x256.Idx) => ?_
  · show (cfg0.win 4).cut (grid0.coords t) ((dats m 0 c).after 4 t) = _
    rw [after0_4]
    have hi := idx t
    funext y
    obtain ⟨a, k, rfl⟩ : ∃ (a : Fin 512) (k : Fin 256), y = ix2 a k := ⟨y 0, y 1, eq_ix2 y⟩
    refine (latent_eq m c t a k).trans (congrArg (IdxRefIdeal.Read.val_main_v29 (F := Ideal) (m ((c : Thread nD τ).loc main_arg0)) (m ((c : Thread nD τ).loc main_arg1)) (m ((c : Thread nD τ).loc main_arg2))) ?_)
    funext b
    fin_cases b
    · refine Fin.ext ((?_ : (512 * t.val + a.val : ℕ) = win0_4.index t (0 : Fin 2) * 512 + 1 * a.val))
      rw [hi.2.2.2.2.1]
      show 512 * t.val + a.val = t.val * 512 + 1 * a.val
      omega
    · refine Fin.ext ((?_ : (k.val : ℕ) = win0_4.index t (1 : Fin 2) * 256 + 1 * k.val))
      rw [hi.2.2.2.2.1]
      show k.val = 0 * 256 + 1 * k.val
      omega
  · have hN : cfg0.N = 16 := N_0
    have h0 : (i 0).val < 8192 := (i 0).isLt
    have h1 : (i 1).val < 256 := (i 1).isLt
    refine ⟨⟨(i 0).val / 512, by omega⟩, flush4 _, (mem4 _ i).2 fun b => ?_⟩
    have hi := idx ⟨(i 0).val / 512, by omega⟩
    fin_cases b
    · show win0_4.index _ (0 : Fin 2) * 512 ≤ (i 0).val ∧ (i 0).val < win0_4.index _ (0 : Fin 2) * 512 + 512
      rw [hi.2.2.2.2.1]
      show (i 0).val / 512 * 512 ≤ (i 0).val ∧ (i 0).val < (i 0).val / 512 * 512 + 512
      omega
    · show win0_4.index _ (1 : Fin 2) * 256 ≤ (i 1).val ∧ (i 1).val < win0_4.index _ (1 : Fin 2) * 256 + 256
      rw [hi.2.2.2.2.1]
      show 0 * 256 ≤ (i 1).val ∧ (i 1).val < 0 * 256 + 256
      omega

theorem mem5 (t : Fin cfg0.N) (i : S8192x192.Idx) :
    i ∈ ((cfg0.win 5).blk t).view.set
      ↔ ∀ b : Fin 2, win0_5.index t b * S512x192.size b ≤ (i b).val ∧ (i b).val < win0_5.index t b * S512x192.size b + S512x192.size b := by
  show i ∈ ((View.whole main_v2_2).slice (win0_5.rect t)).set ↔ _
  rw [View.set_slice_whole, Rect.mem_set_unit]
  exact Iff.rfl

/-- The array of the indexer's keys after the run is the reference's. -/
theorem array5_eq (c : Dev nD) : (dats m 0 c).arrAt 5 cfg0.N = IdxRefIdeal.Read.val_main_v30 (F := Ideal) (m ((c : Thread nD τ).loc main_arg0)) (m ((c : Thread nD τ).loc main_arg1)) := by
  refine (dats m 0 c).arrAt_eq_of_cover 5 _ (fun t _ => ?_) fun (i : S8192x192.Idx) => ?_
  · show (cfg0.win 5).cut (grid0.coords t) ((dats m 0 c).after 5 t) = _
    rw [after0_5]
    have hi := idx t
    funext y
    obtain ⟨a, k, rfl⟩ : ∃ (a : Fin 512) (k : Fin 192), y = ix2 a k := ⟨y 0, y 1, eq_ix2 y⟩
    refine (key_eq m c t a k).trans (congrArg (IdxRefIdeal.Read.val_main_v30 (F := Ideal) (m ((c : Thread nD τ).loc main_arg0)) (m ((c : Thread nD τ).loc main_arg1))) ?_)
    funext b
    fin_cases b
    · refine Fin.ext ((?_ : (512 * t.val + a.val : ℕ) = win0_5.index t (0 : Fin 2) * 512 + 1 * a.val))
      rw [hi.2.2.2.2.2.1]
      show 512 * t.val + a.val = t.val * 512 + 1 * a.val
      omega
    · refine Fin.ext ((?_ : (k.val : ℕ) = win0_5.index t (1 : Fin 2) * 192 + 1 * k.val))
      rw [hi.2.2.2.2.2.1]
      show k.val = 0 * 192 + 1 * k.val
      omega
  · have hN : cfg0.N = 16 := N_0
    have h0 : (i 0).val < 8192 := (i 0).isLt
    have h1 : (i 1).val < 192 := (i 1).isLt
    refine ⟨⟨(i 0).val / 512, by omega⟩, flush5 _, (mem5 _ i).2 fun b => ?_⟩
    have hi := idx ⟨(i 0).val / 512, by omega⟩
    fin_cases b
    · show win0_5.index _ (0 : Fin 2) * 512 ≤ (i 0).val ∧ (i 0).val < win0_5.index _ (0 : Fin 2) * 512 + 512
      rw [hi.2.2.2.2.2.1]
      show (i 0).val / 512 * 512 ≤ (i 0).val ∧ (i 0).val < (i 0).val / 512 * 512 + 512
      omega
    · show win0_5.index _ (1 : Fin 2) * 192 ≤ (i 1).val ∧ (i 1).val < win0_5.index _ (1 : Fin 2) * 192 + 192
      rw [hi.2.2.2.2.2.1]
      show 0 * 192 ≤ (i 1).val ∧ (i 1).val < 0 * 192 + 192
      omega

theorem mem6 (t : Fin cfg0.N) (i : S16x192x8192.Idx) :
    i ∈ ((cfg0.win 6).blk t).view.set
      ↔ ∀ b : Fin 3, win0_6.index t b * S16x192x512.size b ≤ (i b).val ∧ (i b).val < win0_6.index t b * S16x192x512.size b + S16x192x512.size b := by
  show i ∈ ((View.whole main_v2_3).slice (win0_6.rect t)).set ↔ _
  rw [View.set_slice_whole, Rect.mem_set_unit]
  exact Iff.rfl

/-- The array of the indexer's queries after the run is the reference's. -/
theorem array6_eq (c : Dev nD) : (dats m 0 c).arrAt 6 cfg0.N = IdxRefIdeal.Read.val_main_v32 (F := Ideal) (m ((c : Thread nD τ).loc main_arg0)) (m ((c : Thread nD τ).loc main_arg1)) := by
  refine (dats m 0 c).arrAt_eq_of_cover 6 _ (fun t _ => ?_) fun (i : S16x192x8192.Idx) => ?_
  · show (cfg0.win 6).cut (grid0.coords t) ((dats m 0 c).after 6 t) = _
    rw [after0_6]
    have hi := idx t
    funext y
    obtain ⟨h, k, a, rfl⟩ : ∃ (h : Fin 16) (k : Fin 192) (a : Fin 512), y = ix3 h k a := ⟨y 0, y 1, y 2, eq_ix3 y⟩
    refine (query_eq m c t h k a).trans (congrArg (IdxRefIdeal.Read.val_main_v32 (F := Ideal) (m ((c : Thread nD τ).loc main_arg0)) (m ((c : Thread nD τ).loc main_arg1))) ?_)
    funext b
    fin_cases b
    · refine Fin.ext ((?_ : (h.val : ℕ) = win0_6.index t (0 : Fin 3) * 16 + 1 * h.val))
      rw [hi.2.2.2.2.2.2.1]
      show h.val = 0 * 16 + 1 * h.val
      omega
    · refine Fin.ext ((?_ : (k.val : ℕ) = win0_6.index t (1 : Fin 3) * 192 + 1 * k.val))
      rw [hi.2.2.2.2.2.2.1]
      show k.val = 0 * 192 + 1 * k.val
      omega
    · refine Fin.ext ((?_ : (512 * t.val + a.val : ℕ) = win0_6.index t (2 : Fin 3) * 512 + 1 * a.val))
      rw [hi.2.2.2.2.2.2.1]
      show 512 * t.val + a.val = t.val * 512 + 1 * a.val
      omega
  · have hN : cfg0.N = 16 := N_0
    have h0 : (i 0).val < 16 := (i 0).isLt
    have h1 : (i 1).val < 192 := (i 1).isLt
    have h2 : (i 2).val < 8192 := (i 2).isLt
    refine ⟨⟨(i 2).val / 512, by omega⟩, flush6 _, (mem6 _ i).2 fun b => ?_⟩
    have hi := idx ⟨(i 2).val / 512, by omega⟩
    fin_cases b
    · show win0_6.index _ (0 : Fin 3) * 16 ≤ (i 0).val ∧ (i 0).val < win0_6.index _ (0 : Fin 3) * 16 + 16
      rw [hi.2.2.2.2.2.2.1]
      show 0 * 16 ≤ (i 0).val ∧ (i 0).val < 0 * 16 + 16
      omega
    · show win0_6.index _ (1 : Fin 3) * 192 ≤ (i 1).val ∧ (i 1).val < win0_6.index _ (1 : Fin 3) * 192 + 192
      rw [hi.2.2.2.2.2.2.1]
      show 0 * 192 ≤ (i 1).val ∧ (i 1).val < 0 * 192 + 192
      omega
    · show win0_6.index _ (2 : Fin 3) * 512 ≤ (i 2).val ∧ (i 2).val < win0_6.index _ (2 : Fin 3) * 512 + 512
      rw [hi.2.2.2.2.2.2.1]
      show (i 2).val / 512 * 512 ≤ (i 2).val ∧ (i 2).val < (i 2).val / 512 * 512 + 512
      omega

theorem mem7 (t : Fin cfg0.N) (i : S16x8192.Idx) :
    i ∈ ((cfg0.win 7).blk t).view.set
      ↔ ∀ b : Fin 2, win0_7.index t b * S16x512.size b ≤ (i b).val ∧ (i b).val < win0_7.index t b * S16x512.size b + S16x512.size b := by
  show i ∈ ((View.whole main_v2_4).slice (win0_7.rect t)).set ↔ _
  rw [View.set_slice_whole, Rect.mem_set_unit]
  exact Iff.rfl

/-- The array of the indexer's head weights after the run is the reference's. -/
theorem array7_eq (c : Dev nD) : (dats m 0 c).arrAt 7 cfg0.N = IdxRefIdeal.Read.val_main_v35 (F := Ideal) (m ((c : Thread nD τ).loc main_arg0)) (m ((c : Thread nD τ).loc main_arg1)) := by
  refine (dats m 0 c).arrAt_eq_of_cover 7 _ (fun t _ => ?_) fun (i : S16x8192.Idx) => ?_
  · show (cfg0.win 7).cut (grid0.coords t) ((dats m 0 c).after 7 t) = _
    rw [after0_7]
    have hi := idx t
    funext y
    obtain ⟨h, a, rfl⟩ : ∃ (h : Fin 16) (a : Fin 512), y = ix2 h a := ⟨y 0, y 1, eq_ix2 y⟩
    refine (head_eq m c t h a).trans (congrArg (IdxRefIdeal.Read.val_main_v35 (F := Ideal) (m ((c : Thread nD τ).loc main_arg0)) (m ((c : Thread nD τ).loc main_arg1))) ?_)
    funext b
    fin_cases b
    · refine Fin.ext ((?_ : (h.val : ℕ) = win0_7.index t (0 : Fin 2) * 16 + 1 * h.val))
      rw [hi.2.2.2.2.2.2.2]
      show h.val = 0 * 16 + 1 * h.val
      omega
    · refine Fin.ext ((?_ : (512 * t.val + a.val : ℕ) = win0_7.index t (1 : Fin 2) * 512 + 1 * a.val))
      rw [hi.2.2.2.2.2.2.2]
      show 512 * t.val + a.val = t.val * 512 + 1 * a.val
      omega
  · have hN : cfg0.N = 16 := N_0
    have h0 : (i 0).val < 16 := (i 0).isLt
    have h1 : (i 1).val < 8192 := (i 1).isLt
    refine ⟨⟨(i 1).val / 512, by omega⟩, flush7 _, (mem7 _ i).2 fun b => ?_⟩
    have hi := idx ⟨(i 1).val / 512, by omega⟩
    fin_cases b
    · show win0_7.index _ (0 : Fin 2) * 16 ≤ (i 0).val ∧ (i 0).val < win0_7.index _ (0 : Fin 2) * 16 + 16
      rw [hi.2.2.2.2.2.2.2]
      show 0 * 16 ≤ (i 0).val ∧ (i 0).val < 0 * 16 + 16
      omega
    · show win0_7.index _ (1 : Fin 2) * 512 ≤ (i 1).val ∧ (i 1).val < win0_7.index _ (1 : Fin 2) * 512 + 512
      rw [hi.2.2.2.2.2.2.2]
      show (i 1).val / 512 * 512 ≤ (i 1).val ∧ (i 1).val < (i 1).val / 512 * 512 + 512
      omega

/-- The run leaves the reference's five results, and the arguments as they were. -/
theorem run : θ_run defs (onTc (τ := τ) (main (F := Ideal))) ⟨m, fun _ => 0, ρ⟩ fun r => ∀ c : Dev nD,
      r.2.mem ((c : Thread nD τ).loc main_v2_0) = IdxRefIdeal.Read.val_main_v15 (F := Ideal) (m ((c : Thread nD τ).loc main_arg0))
      ∧ r.2.mem ((c : Thread nD τ).loc main_v2_1) = IdxRefIdeal.Read.val_main_v29 (F := Ideal) (m ((c : Thread nD τ).loc main_arg0)) (m ((c : Thread nD τ).loc main_arg1)) (m ((c : Thread nD τ).loc main_arg2))
      ∧ r.2.mem ((c : Thread nD τ).loc main_v2_2) = IdxRefIdeal.Read.val_main_v30 (F := Ideal) (m ((c : Thread nD τ).loc main_arg0)) (m ((c : Thread nD τ).loc main_arg1))
      ∧ r.2.mem ((c : Thread nD τ).loc main_v2_3) = IdxRefIdeal.Read.val_main_v32 (F := Ideal) (m ((c : Thread nD τ).loc main_arg0)) (m ((c : Thread nD τ).loc main_arg1))
      ∧ r.2.mem ((c : Thread nD τ).loc main_v2_4) = IdxRefIdeal.Read.val_main_v35 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (array3_eq m c), ((h c).1 4).trans (array4_eq m c),
      ((h c).1 5).trans (array5_eq m c), ((h c).1 6).trans (array6_eq m c), ((h c).1 7).trans (array7_eq m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.IdxIdeal.Result

end
-- ==== Proof.MergePay.lean ====
/-
  What the stores of the merge kernel's body are worth at an index: the two gates' weights and the projection's weights that
  the first point of a column block copies, and the block of the result over the values loaded before it.
-/
module

public import proofs.«01_k».proof.Proof.Gen.MergeIdeal.Skeleton
public import proofs.«01_k».proof.Proof.Layer

@[expose] public section

noncomputable section

namespace Cert.MergeIdeal.Pay

open Idealize.ShloMosaic Cert.MergeIdeal Cert.MergeIdeal.Gen Cert.Layer
open scoped BigOperators

theorem gate0_apply (v34 : Vec Ideal S512x2048 .f32) (r : Fin 512) (k : Fin 2048) :
    k0_pay2 (F := Ideal) v34 (ix3 0 r k) = v34 (ix2 r k) := by
  unfold_payloads
  pointwise

theorem gate1_apply (v40 : Vec Ideal S512x2048 .f32) (r : Fin 512) (k : Fin 2048) :
    k0_pay3 (F := Ideal) v40 (ix3 0 r k) = v40 (ix2 r k) := by
  unfold_payloads
  pointwise

theorem weights_apply (v46 : Vec Ideal S2048x512 .f32) (k : Fin 2048) (l : Fin 512) :
    k0_pay4 (F := Ideal) v46 (ix2 k l) = v46 (ix2 k l) := by
  unfold_payloads
  pointwise

theorem out_apply (v3 : Vec Ideal S512x2048 .bf16) (v4 v14 : Vec Ideal S1x512x2048 .bf16) (v24 : Vec Ideal S512x2048 .bf16)
    (v25 : Vec Ideal S2048x512 .bf16) (v28 : Vec Ideal S512x512 .f32) (r l : Fin 512) :
    k0_pay1 (F := Ideal) (k0_pay5 v3 v4 v14 v24 v25 v28) (ix2 r l)
      = logistic (∑ k : Fin 2048, v3 (ix2 r k) * v4 (ix3 0 l k)) * (∑ k : Fin 2048, v24 (ix2 r k) * v25 (ix2 k l))
        + logistic (∑ k : Fin 2048, v3 (ix2 r k) * v14 (ix3 0 l k)) * v28 (ix2 l r) := by
  unfold_payloads
  pointwise [dot_S512x2048_S512x2048_S512x512_1_1_0_0_n_n, dot_S512x2048_S2048x512_S512x512_1_0_0_1_n_n, zero_sub]
  rfl

end Cert.MergeIdeal.Pay

end
-- ==== Proof.MergeRef.lean ====
/-
  The merge reference at an index: each branch times the logistic function of its gate's projection, added.
-/
module

public import proofs.«01_k».proof.Proof.Gen.MergeRefIdeal.Read
public import proofs.«01_k».proof.Proof.Layer

@[expose] public section

noncomputable section

namespace Cert.MergeRefIdeal.Rows

open Idealize.ShloMosaic Cert.MergeRefIdeal Cert.MergeRefIdeal.Read Cert.Layer
open scoped BigOperators

variable (x0 x1 : (⟨S8192x2048, .bf16⟩ : BufTy).Contents (Elt Ideal)) (x2 : (⟨S2048x15696, .f32⟩ : BufTy).Contents (Elt Ideal))
  (x3 : (⟨S2048x2048, .f32⟩ : BufTy).Contents (Elt Ideal)) (x4 : (⟨S2048x8192, .f32⟩ : BufTy).Contents (Elt Ideal))

/-- A gate: the logistic function of a row's product with a column of the input projection. -/
theorem gate_apply (i : Fin 8192) (q : Fin 4096) :
    val_main_v8 (F := Ideal) x0 x2 (ix2 i q)
      = logistic (∑ j : Fin 2048, x0 (ix2 i j) * x2 (ix2 j ⟨11600 + q.val, by omega⟩)) := by
  pointwise [val_main_v8, val_main_v7, val_main_v6, val_main_v5, val_main_v4, val_main_v3, val_main_v2, val_main_v1, val_main_v0,
    val_main_cst, val_main_cst_0, dot_S8192x2048_S2048x4096_S8192x4096_1_0_0_1_n_n]
  rfl

/-- The result. -/
theorem result_apply (i : Fin 8192) (l : Fin 2048) :
    val_main_v17 (F := Ideal) x0 x1 x2 x3 x4 (ix2 i l)
      = val_main_v8 (F := Ideal) x0 x2 (ix2 i ⟨l.val, by omega⟩) * (∑ k : Fin 2048, x1 (ix2 i k) * x3 (ix2 k l))
        + val_main_v8 (F := Ideal) x0 x2 (ix2 i ⟨2048 + l.val, by omega⟩) * x4 (ix2 l i) := by
  unfold val_main_v17 val_main_v16 val_main_v15 val_main_v13 val_main_v10 val_main_v9
  generalize val_main_v8 (F := Ideal) x0 x2 = w
  pointwise [val_main_v14, val_main_v12, val_main_v11, dot_S8192x2048_S2048x2048_S8192x2048_1_0_0_1_n_n]

end Cert.MergeRefIdeal.Rows

end
-- ==== Proof.MergeValue.lean ====
/-
  The merge kernel's array after the run: every point reads the weights that the first point of its column block copied, so
  its block is the reference's result at its rows and columns.
-/
module

public import proofs.«01_k».proof.Proof.Gen.MergeIdeal.Value
public import proofs.«01_k».proof.Proof.MergePay
public import proofs.«01_k».proof.Proof.MergeRef
public import Idealize.ShloMosaic.Lib.Pipeline.ValueKit
public import Idealize.ShloMosaic.Lib.Pipeline.ReadBack

@[expose] public section

noncomputable section

namespace Cert.MergeIdeal.Result

open Idealize.ShloMosaic Idealize.ShloMosaic.TcCoe Idealize.SL.Sem Cert.MergeIdeal Cert.MergeIdeal.Gen Cert.MergeIdeal.Value
  Cert.MergeIdeal.Pay Cert.Layer
open scoped BigOperators

variable (m : (ℓ : Loc nD τ sig) → Buf (Elt Ideal) ℓ)

/-- Where the windows' blocks lie; the gates' weights are found by element. -/
theorem idx : ∀ t : Fin cfg0.N, win0_0.index t = ![t.val % 16, 0] ∧ win0_1.index t = ![t.val % 16, 0]
    ∧ win0_2.index t = ![11600 + 512 * (t.val / 16), 0] ∧ win0_3.index t = ![13648 + 512 * (t.val / 16), 0]
    ∧ win0_4.index t = ![0, t.val / 16] ∧ win0_5.index t = ![t.val / 16, t.val % 16] :=
  (by decide +kernel : ∀ t : Fin grid0.N, _)

/-- A row of the first gate's window is a column of the input projection. -/
theorem gate0_block (c : Dev nD) (t : Fin cfg0.N) (r : Fin 512) (k : Fin 2048) (q : Fin 15696)
    (hq : q.val = 11600 + 512 * (t.val / 16) + r.val) :
    (iblk m c 2 t : Vec Ideal S512x2048 .f32) (ix2 r k) = m ((c : Thread nD τ).loc main_arg2) (ix2 k q) := by
  have hi := idx t
  blk_ext! [iblk, hi]
  · exact (Pipeline.Window.rect_emb_val_off win0_2 t (ix2 r k) 1).trans (by rw [hi.2.2.1]; exact Nat.zero_add _)
  · exact (Pipeline.Window.rect_emb_val_off win0_2 t (ix2 r k) 0).trans (by rw [hi.2.2.1]; exact hq.symm)

/-- A row of the second gate's window is a column of the input projection. -/
theorem gate1_block (c : Dev nD) (t : Fin cfg0.N) (r : Fin 512) (k : Fin 2048) (q : Fin 15696)
    (hq : q.val = 13648 + 512 * (t.val / 16) + r.val) :
    (iblk m c 3 t : Vec Ideal S512x2048 .f32) (ix2 r k) = m ((c : Thread nD τ).loc main_arg2) (ix2 k q) := by
  have hi := idx t
  blk_ext! [iblk, hi]
  · exact (Pipeline.Window.rect_emb_val_off win0_3 t (ix2 r k) 1).trans (by rw [hi.2.2.2.1]; exact Nat.zero_add _)
  · exact (Pipeline.Window.rect_emb_val_off win0_3 t (ix2 r k) 0).trans (by rw [hi.2.2.2.1]; exact hq.symm)

/-- The projection's window is a block of columns. -/
theorem weights_block (c : Dev nD) (t : Fin cfg0.N) (k : Fin 2048) (l : Fin 512) (q : Fin 2048)
    (hq : q.val = 512 * (t.val / 16) + l.val) :
    (iblk m c 4 t : Vec Ideal S2048x512 .f32) (ix2 k l) = m ((c : Thread nD τ).loc main_arg3) (ix2 k q) := by
  have hi := idx t
  blk_ext! [iblk, V, hi]

/-- The carried weights of the gates, after any point of a column block. -/
theorem gates_carried (c : Dev nD) (n : ℕ) (h : n < cfg0.N) (p : Fin 2) (r : Fin 512) (k : Fin 2048) (q : Fin 15696)
    (hq : q.val = 11600 + 2048 * p.val + 512 * (n / 16) + r.val) :
    (outsAt0 m c n h).2.1 (ix3 p r k) = m ((c : Thread nD τ).loc main_arg2) (ix2 k q) := by
  have first : ∀ n (h : n < cfg0.N), n % 16 = 0 → q.val = 11600 + 2048 * p.val + 512 * (n / 16) + r.val →
      (outsAt0 m c n h).2.1 (ix3 p r k) = m ((c : Thread nD τ).loc main_arg2) (ix2 k q) := fun n h h0 hq => by
    rw [show outsAt0 m c n h = _ from outsAt0_A m c ⟨n, h⟩ h0]
    frame_out
    canon_tiles x hx
    · have hp : p.val = 1 + (x 0).val := hx0
      have hx : x = ix3 0 r k := by
        funext a
        fin_cases a
        · exact Fin.ext (by show (x 0).val = 0; omega)
        · exact Fin.ext hx1.symm
        · exact Fin.ext hx2.symm
      rw [hx, gate1_apply]
      exact gate1_block m c ⟨n, h⟩ r k q (by show q.val = 13648 + 512 * (n / 16) + r.val; omega)
    · have hp : p.val = (x 0).val := hx0
      have hx : x = ix3 0 r k := by
        funext a
        fin_cases a
        · exact Fin.ext (by show (x 0).val = 0; omega)
        · exact Fin.ext hx1.symm
        · exact Fin.ext hx2.symm
      rw [hx, gate0_apply]
      exact gate0_block m c ⟨n, h⟩ r k q (by show q.val = 11600 + 512 * (n / 16) + r.val; omega)
  induction n with
  | zero => exact first 0 h rfl hq
  | succ n ih =>
    by_cases h0 : (n + 1) % 16 = 0
    · exact first (n + 1) h h0 hq
    · rw [show outsAt0 m c (n + 1) h = _ from outsAt0_B m c ⟨n + 1, h⟩ h0]
      frame_out
      exact ih _ (by omega)

/-- The carried weights of the projection, after any point of a column block. -/
theorem weights_carried (c : Dev nD) (n : ℕ) (h : n < cfg0.N) (k : Fin 2048) (l : Fin 512) (q : Fin 2048)
    (hq : q.val = 512 * (n / 16) + l.val) :
    (outsAt0 m c n h).2.2 (ix2 k l) = m ((c : Thread nD τ).loc main_arg3) (ix2 k q) := by
  have first : ∀ n (h : n < cfg0.N), n % 16 = 0 → q.val = 512 * (n / 16) + l.val →
      (outsAt0 m c n h).2.2 (ix2 k l) = m ((c : Thread nD τ).loc main_arg3) (ix2 k q) := fun n h h0 hq => by
    rw [show outsAt0 m c n h = _ from outsAt0_A m c ⟨n, h⟩ h0]
    frame_out
    rw [weights_apply]
    exact weights_block m c ⟨n, h⟩ k l q hq
  induction n with
  | zero => exact first 0 h rfl hq
  | succ n ih =>
    by_cases h0 : (n + 1) % 16 = 0
    · exact first (n + 1) h h0 hq
    · rw [show outsAt0 m c (n + 1) h = _ from outsAt0_B m c ⟨n + 1, h⟩ h0]
      frame_out
      exact ih _ (by omega)

/-- A point's block of the result, over weights that hold the arrays' values. -/
theorem out_over (c : Dev nD) (t : Fin cfg0.N) : ∃ (a b : Vec Ideal S1x512x2048 .bf16) (w : Vec Ideal S2048x512 .bf16),
    (∀ (r : Fin 512) (k : Fin 2048) (q : Fin 15696), q.val = 11600 + 512 * (t.val / 16) + r.val →
        a (ix3 0 r k) = m ((c : Thread nD τ).loc main_arg2) (ix2 k q))
      ∧ (∀ (r : Fin 512) (k : Fin 2048) (q : Fin 15696), q.val = 13648 + 512 * (t.val / 16) + r.val →
        b (ix3 0 r k) = m ((c : Thread nD τ).loc main_arg2) (ix2 k q))
      ∧ (∀ (k : Fin 2048) (l : Fin 512) (q : Fin 2048), q.val = 512 * (t.val / 16) + l.val →
        w (ix2 k l) = m ((c : Thread nD τ).loc main_arg3) (ix2 k q))
      ∧ (outsAt0 m c t.val t.isLt).1 = k0_pay1 (k0_pay5 (iblk m c 0 t) a b (iblk m c 1 t) w (iblk m c 5 t)) := by
  by_cases h : t.val % 16 = 0
  · refine ⟨k0_pay2 (iblk m c 2 t), k0_pay3 (iblk m c 3 t), k0_pay4 (iblk m c 4 t),
      fun r k q hq => by rw [gate0_apply, gate0_block m c t r k q hq], fun r k q hq => by rw [gate1_apply, gate1_block m c t r k q hq],
      fun k l q hq => by rw [weights_apply, weights_block m c t k l q hq], ?_⟩
    rw [outsAt0_A m c t h]
    frame_open
    simp (disch := decide) only [↓ View.readCov_skip, ↓ View.readCov_cons_toLoadRect, ↓ View.readCov_fill]
    frame_out
  · have hd : (t.val - 1) / 16 = t.val / 16 := by omega
    refine ⟨View.ld (outsAt0 m c (t.val - 1) (Nat.lt_of_le_of_lt (Nat.sub_le _ _) t.isLt)).2.1
        (Rect.unit ![0, 0, 0] ![1, 512, 2048] inb_S2x512x2048_S1x512x2048_0_0_0),
      View.ld (outsAt0 m c (t.val - 1) (Nat.lt_of_le_of_lt (Nat.sub_le _ _) t.isLt)).2.1
        (Rect.unit ![1, 0, 0] ![1, 512, 2048] inb_S2x512x2048_S1x512x2048_1_0_0),
      (outsAt0 m c (t.val - 1) (Nat.lt_of_le_of_lt (Nat.sub_le _ _) t.isLt)).2.2,
      fun r k q hq => ?_, fun r k q hq => ?_, fun k l q hq => weights_carried m c _ _ k l q (by omega), ?_⟩
    · refine (View.ld_unit_apply_of _ _ _ _ _ (ix3 0 r k) fun a => ?_).trans (gates_carried m c _ _ 0 r k q (by show q.val = 11600 + 2048 * 0 + _ + _; omega))
      fin_cases a <;> simp
    · refine (View.ld_unit_apply_of _ _ _ _ _ (ix3 1 r k) fun a => ?_).trans (gates_carried m c _ _ 1 r k q (by show q.val = 11600 + 2048 * 1 + _ + _; omega))
      fin_cases a <;> simp
    · rw [outsAt0_B m c t h]
      frame_out
      simp only [read_unread_whole]

/-- Row `r` of a point's block is row `512·(t % 16) + r` of the array. -/
abbrev row (t : Fin cfg0.N) (r : Fin 512) : Fin 8192 := ⟨512 * (t.val % 16) + r.val, by omega⟩

/-- Column `l` of a point's block is column `512·(t / 16) + l` of the array. -/
abbrev col (t : Fin cfg0.N) (l : Fin 512) : Fin 2048 :=
  ⟨512 * (t.val / 16) + l.val, by have := lt_of_lt_of_eq t.isLt (show cfg0.N = 64 from N_0); omega⟩

theorem out_eq (c : Dev nD) (t : Fin cfg0.N) (r l : Fin 512) :
    (outsAt0 m c t.val t.isLt).1 (ix2 r l)
      = MergeRefIdeal.Read.val_main_v17 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (ix2 (row t r) (col t l)) := by
  have hi := idx t
  have e0 : ∀ j : Fin 2048, (iblk m c 0 t : Vec Ideal S512x2048 .bf16) (ix2 r j)
      = m ((c : Thread nD τ).loc main_arg0) (ix2 (row t r) j) := fun j => by blk_ext! [iblk, V, hi]
  have e1 : ∀ j : Fin 2048, (iblk m c 1 t : Vec Ideal S512x2048 .bf16) (ix2 r j)
      = m ((c : Thread nD τ).loc main_arg1) (ix2 (row t r) j) := fun j => by blk_ext! [iblk, V, hi]
  have e5 : (iblk m c 5 t : Vec Ideal S512x512 .f32) (ix2 l r)
      = m ((c : Thread nD τ).loc main_arg4) (ix2 (col t l) (row t r)) := by blk_ext! [iblk, V, hi]
  obtain ⟨a, b, w, ha, hb, hw, ho⟩ := out_over m c t
  rw [ho, out_apply, MergeRefIdeal.Rows.result_apply, MergeRefIdeal.Rows.gate_apply, MergeRefIdeal.Rows.gate_apply, e5]
  have ga : ∀ k : Fin 2048, a (ix3 0 l k) = m ((c : Thread nD τ).loc main_arg2) (ix2 k ⟨11600 + (col t l).val, by omega⟩) :=
    fun k => ha l k _ (by show 11600 + (512 * (t.val / 16) + l.val) = _; omega)
  have gb : ∀ k : Fin 2048, b (ix3 0 l k) = m ((c : Thread nD τ).loc main_arg2) (ix2 k ⟨11600 + (2048 + (col t l).val), by omega⟩) :=
    fun k => hb l k _ (by show 11600 + (2048 + (512 * (t.val / 16) + l.val)) = _; omega)
  have gw : ∀ k : Fin 2048, w (ix2 k l) = m ((c : Thread nD τ).loc main_arg3) (ix2 k (col t l)) := fun k => hw k l _ rfl
  simp only [e0, e1, ga, gb, gw]

/-- The array that the run leaves is the reference's result. -/
theorem array_eq (c : Dev nD) :
    G6 m c
      = MergeRefIdeal.Read.val_main_v17 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  funext i
  obtain ⟨a, l, rfl⟩ : ∃ (a : Fin 8192) (l : Fin 2048), i = ix2 a l := ⟨i 0, i 1, eq_ix2 i⟩
  have hN : cfg0.N = 64 := N_0
  have hp : pt6Of (ix2 a l) = a.val / 512 + 16 * (l.val / 512) := by
    show 1 * (a.val / 512 - 0) + 16 * (l.val / 512 - 0) = _
    omega
  have hlt : pt6Of (ix2 a l) < cfg0.N := by omega
  have hloc : loc6Of (ix2 a l) = ix2 ⟨a.val % 512, by omega⟩ ⟨l.val % 512, by omega⟩ := by
    funext b
    fin_cases b <;> rfl
  unfold G6
  rw [dif_pos hlt, ← outsAt0_sweep m c _ hlt, hloc, out_eq m c ⟨pt6Of (ix2 a l), hlt⟩ _ _]
  refine congrArg _ (congrArg₂ ix2 (Fin.ext ?_) (Fin.ext ?_))
  · show 512 * (pt6Of (ix2 a l) % 16) + a.val % 512 = a.val
    omega
  · show 512 * (pt6Of (ix2 a l) / 16) + l.val % 512 = l.val
    omega

end Cert.MergeIdeal.Result

end
-- ==== Proof.OprojPay.lean ====
/-
  What the stores of the output-projection kernel's body are worth at an index: the weights that the first point copies, and
  the normalised row of the scaled residual plus the projection.
-/
module

public import proofs.«01_k».proof.Proof.Gen.OprojIdeal.Skeleton
public import proofs.«01_k».proof.Proof.Layer

@[expose] public section

noncomputable section

namespace Cert.OprojIdeal.Pay

open Idealize.ShloMosaic Cert.OprojIdeal Cert.OprojIdeal.Gen Cert.Layer
open scoped BigOperators

/-- The scale of the residual. -/
abbrev alpha : EReal := Ideal.ofBits .f32 0x3F9837F0#32

theorem weights_apply (v37 : Vec Ideal S2048x2048 .f32) (j : Fin 2048) (k : Fin 2048) :
    k0_pay1 (F := Ideal) v37 (ix2 j k) = v37 (ix2 j k) := by
  unfold_payloads
  pointwise

theorem row_apply (v3 : Vec Ideal S512x2048 .f32) (v6 : Vec Ideal S512x2048 .bf16) (v7 : Vec Ideal S2048x2048 .bf16)
    (v10 v12 : Vec Ideal S1x2048 .f32) (r : Fin 512) (c : Fin 2048) :
    k0_pay2 (F := Ideal) v3 v6 v7 v10 v12 (ix2 r c)
      = norm (fun k => alpha * v3 (ix2 r k) + ∑ j : Fin 2048, v6 (ix2 r j) * v7 (ix2 j k)) (v10 (ix2 0 c)) (v12 (ix2 0 c)) c := by
  unfold_payloads
  pointwise [dot_S512x2048_S2048x2048_S512x2048_1_0_0_1_n_n]
  rfl

theorem row_bf16_apply (v3 : Vec Ideal S512x2048 .f32) (v6 : Vec Ideal S512x2048 .bf16) (v7 : Vec Ideal S2048x2048 .bf16)
    (v10 v12 : Vec Ideal S1x2048 .f32) (r : Fin 512) (c : Fin 2048) :
    k0_pay3 (F := Ideal) v3 v6 v7 v10 v12 (ix2 r c) = k0_pay2 (F := Ideal) v3 v6 v7 v10 v12 (ix2 r c) := by
  unfold k0_pay3
  pointwise

end Cert.OprojIdeal.Pay

end
-- ==== Proof.OprojRef.lean ====
/-
  What the output-projection reference computes, read at an index.
-/
module

public import proofs.«01_k».proof.Proof.Gen.OprojRefIdeal.Read
public import proofs.«01_k».proof.Proof.Layer

@[expose] public section

noncomputable section

namespace Cert.OprojRefIdeal.Rows

open Idealize.ShloMosaic Cert.OprojRefIdeal Cert.OprojRefIdeal.Gen Cert.OprojRefIdeal.Read Cert.Layer
open scoped BigOperators

/-- The scale of the residual. -/
abbrev alpha : EReal := Ideal.ofBits .f32 0x3F9837F0#32

variable (x0 : (⟨S8192x2048, .bf16⟩ : BufTy).Contents (Elt Ideal)) (x1 : (⟨S2048x2048, .f32⟩ : BufTy).Contents (Elt Ideal))
  (x2 : (⟨S8192x2048, .f32⟩ : BufTy).Contents (Elt Ideal)) (x3 x4 : (⟨S2048, .f32⟩ : BufTy).Contents (Elt Ideal))

/-- The scaled residual plus the projection. -/
theorem residual_apply (i : Fin 8192) (k : Fin 2048) :
    val_main_v4 (F := Ideal) x0 x1 x2 (ix2 i k)
      = alpha * x2 (ix2 i k) + ∑ j : Fin 2048, x0 (ix2 i j) * x1 (ix2 j k) := by
  pointwise [val_main_v4, val_main_v3, val_main_v2, val_main_v1, val_main_v0, val_main_cst,
    dot_S8192x2048_S2048x2048_S8192x2048_1_0_0_1_n_n]

/-- The result. -/
theorem result_apply (i : Fin 8192) (k : Fin 2048) :
    val_main_v28 (F := Ideal) x0 x1 x2 x3 x4 (ix2 i k)
      = norm (fun k => val_main_v4 (F := Ideal) x0 x1 x2 (ix2 i k)) (x3 (ix1 k)) (x4 (ix1 k)) k := by
  unfold val_main_v28 val_main_v25 val_main_v22 val_main_v21 val_main_v20 val_main_v19 val_main_v17 val_main_v16 val_main_v15
    val_main_v13 val_main_v12 val_main_v11 val_main_v10 val_main_v9 val_main_v8 val_main_v6 val_main_v5
  generalize val_main_v4 (F := Ideal) x0 x1 x2 = w
  pointwise [val_main_cst_0, val_main_cst_1, val_main_cst_2, val_main_cst_3, val_main_cst_4, val_main_v7, val_main_v14,
    val_main_v18, val_main_v23, val_main_v24, val_main_v26, val_main_v27]
  rfl

/-- The second result is the first one's values. -/
theorem result_bf16_apply (i : Fin 8192) (k : Fin 2048) :
    val_main_v29 (F := Ideal) x0 x1 x2 x3 x4 (ix2 i k) = val_main_v28 (F := Ideal) x0 x1 x2 x3 x4 (ix2 i k) := by
  unfold val_main_v29
  pointwise

end Cert.OprojRefIdeal.Rows

end
-- ==== Proof.OprojValue.lean ====
/-
  The output-projection kernel's two arrays after the run: every point reads the weights that the first one copied, so its
  block is the reference's result at its rows.
-/
module

public import proofs.«01_k».proof.Proof.Gen.OprojIdeal.Value
public import proofs.«01_k».proof.Proof.OprojPay
public import proofs.«01_k».proof.Proof.OprojRef
public import Idealize.ShloMosaic.Lib.Pipeline.ValueKit
public import Idealize.ShloMosaic.Lib.Pipeline.ReadBack

@[expose] public section

noncomputable section

namespace Cert.OprojIdeal.Result

open Idealize.ShloMosaic Idealize.ShloMosaic.TcCoe Idealize.SL.Sem Cert.OprojIdeal Cert.OprojIdeal.Gen Cert.OprojIdeal.Value Cert.OprojIdeal.Pay Cert.Layer
open scoped BigOperators

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, 0] ∧ win0_4.index t = ![0, 0] :=
  (by decide +kernel : ∀ t : Fin grid0.N, _)

/-- The weights' window holds the whole array at every point. -/
theorem weights_block (c : Dev nD) (t : Fin cfg0.N) (j k : Fin 2048) :
    (iblk m c 1 t : Vec Ideal S2048x2048 .f32) (ix2 j k) = m ((c : Thread nD τ).loc main_arg1) (ix2 j k) := by
  have hi := idx t
  blk_ext! [iblk, V, hi]

/-- The carried weights after any point are the array's. -/
theorem carried (c : Dev nD) (n : ℕ) (h : n < cfg0.N) (j k : Fin 2048) :
    (outsAt0 m c n h).2.2 (ix2 j k) = m ((c : Thread nD τ).loc main_arg1) (ix2 j k) := by
  have hN : cfg0.N = 16 := N_0
  induction n with
  | zero =>
    rw [show outsAt0 m c 0 h = _ from outsAt0_A m c ⟨0, h⟩ rfl]
    frame_out
    rw [weights_apply, weights_block]
  | succ n ih =>
    rw [show outsAt0 m c (n + 1) h = _ from outsAt0_B m c ⟨n + 1, h⟩ (by show ¬(n + 1) % 16 = 0; omega)]
    frame_out
    exact ih _

/-- A point's block of the first result, over weights that hold the array's values. -/
theorem out_first (c : Dev nD) (t : Fin cfg0.N) : ∃ w : Vec Ideal S2048x2048 .bf16,
    (∀ j k, w (ix2 j k) = m ((c : Thread nD τ).loc main_arg1) (ix2 j k))
      ∧ (outsAt0 m c t.val t.isLt).1 = k0_pay2 (iblk m c 2 t) (iblk m c 0 t) w (iblk m c 3 t) (iblk m c 4 t)
      ∧ (outsAt0 m c t.val t.isLt).2.1 = k0_pay3 (iblk m c 2 t) (iblk m c 0 t) w (iblk m c 3 t) (iblk m c 4 t) := by
  by_cases h : t.val % 16 = 0
  · refine ⟨k0_pay1 (iblk m c 1 t), fun j k => by rw [weights_apply, weights_block], ?_, ?_⟩
    · rw [outsAt0_A m c t h]
      frame_out
    · rw [outsAt0_A m c t h]
      frame_out
  · refine ⟨(outsAt0 m c (t.val - 1) (Nat.lt_of_le_of_lt (Nat.sub_le _ _) t.isLt)).2.2, fun j k => carried m c _ _ j k, ?_, ?_⟩
    · rw [outsAt0_B m c t h]
      frame_out
      rw [read_unread_whole]
    · rw [outsAt0_B m c t h]
      frame_out
      rw [read_unread_whole]

/-- Row `r` of a point's block is row `512·t + r` of the array. -/
abbrev row (t : Fin cfg0.N) (r : Fin 512) : Fin 8192 :=
  ⟨512 * t.val + r.val, by have := lt_of_lt_of_eq t.isLt (show cfg0.N = 16 from N_0); omega⟩

theorem out_eq (c : Dev nD) (t : Fin cfg0.N) (r : Fin 512) (l : Fin 2048) :
    (outsAt0 m c t.val t.isLt).1 (ix2 r l)
      = OprojRefIdeal.Read.val_main_v28 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (ix2 (row t r) l)
    ∧ (outsAt0 m c t.val t.isLt).2.1 (ix2 r l)
      = OprojRefIdeal.Read.val_main_v29 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (ix2 (row t r) l) := by
  have hi := idx t
  have e0 : ∀ j : Fin 2048, (iblk m c 0 t : Vec Ideal S512x2048 .bf16) (ix2 r j)
      = m ((c : Thread nD τ).loc main_arg0) (ix2 (row t r) j) := fun j => by blk_ext! [iblk, V, hi]
  have e2 : ∀ j : Fin 2048, (iblk m c 2 t : Vec Ideal S512x2048 .f32) (ix2 r j)
      = m ((c : Thread nD τ).loc main_arg2) (ix2 (row t r) j) := fun j => by blk_ext! [iblk, V, hi]
  have e3 : ∀ j : Fin 2048, (iblk m c 3 t : Vec Ideal S1x2048 .f32) (ix2 0 j)
      = m ((c : Thread nD τ).loc main_arg3) (ix1 j) := fun j => by blk_ext! [iblk, hi]
  have e4 : ∀ j : Fin 2048, (iblk m c 4 t : Vec Ideal S1x2048 .f32) (ix2 0 j)
      = m ((c : Thread nD τ).loc main_arg4) (ix1 j) := fun j => by blk_ext! [iblk, hi]
  obtain ⟨w, hw, h1, h2⟩ := out_first m c t
  have first : k0_pay2 (F := Ideal) (iblk m c 2 t) (iblk m c 0 t) w (iblk m c 3 t) (iblk m c 4 t) (ix2 r l)
      = OprojRefIdeal.Read.val_main_v28 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (ix2 (row t r) l) := by
    rw [row_apply, OprojRefIdeal.Rows.result_apply]
    refine norm_congr (fun k => ?_) (e3 l) (e4 l) l
    rw [OprojRefIdeal.Rows.residual_apply, e2]
    simp only [e0, hw]
  refine ⟨by rw [h1, first], ?_⟩
  rw [h2, row_bf16_apply, first, OprojRefIdeal.Rows.result_bf16_apply]

theorem array5_eq (c : Dev nD) :
    G5 m c
      = OprojRefIdeal.Read.val_main_v28 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  funext i
  obtain ⟨a, l, rfl⟩ : ∃ (a : Fin 8192) (l : Fin 2048), i = ix2 a l := ⟨i 0, i 1, eq_ix2 i⟩
  have hN : cfg0.N = 16 := N_0
  have hp : pt5Of (ix2 a l) = a.val / 512 := by
    show 1 * (a.val / 512 - 0) + 1 * (l.val / 2048 - 0) = _
    omega
  have hlt : pt5Of (ix2 a l) < cfg0.N := by omega
  have hloc : loc5Of (ix2 a l) = ix2 ⟨a.val % 512, by omega⟩ l := by
    funext b
    fin_cases b
    · rfl
    · exact Fin.ext (Nat.mod_eq_of_lt l.isLt)
  unfold G5
  rw [dif_pos hlt, ← outsAt0_sweep m c _ hlt, hloc, (out_eq m c ⟨pt5Of (ix2 a l), hlt⟩ _ l).1]
  refine congrArg _ (congrArg (fun z => ix2 z l) (Fin.ext ?_))
  show 512 * pt5Of (ix2 a l) + a.val % 512 = a.val
  omega

theorem array6_eq (c : Dev nD) :
    G6 m c
      = OprojRefIdeal.Read.val_main_v29 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  funext i
  obtain ⟨a, l, rfl⟩ : ∃ (a : Fin 8192) (l : Fin 2048), i = ix2 a l := ⟨i 0, i 1, eq_ix2 i⟩
  have hN : cfg0.N = 16 := N_0
  have hp : pt6Of (ix2 a l) = a.val / 512 := by
    show 1 * (a.val / 512 - 0) + 1 * (l.val / 2048 - 0) = _
    omega
  have hlt : pt6Of (ix2 a l) < cfg0.N := by omega
  have hloc : loc6Of (ix2 a l) = ix2 ⟨a.val % 512, by omega⟩ l := by
    funext b
    fin_cases b
    · rfl
    · exact Fin.ext (Nat.mod_eq_of_lt l.isLt)
  unfold G6
  rw [dif_pos hlt, ← outsAt0_sweep m c _ hlt, hloc, (out_eq m c ⟨pt6Of (ix2 a l), hlt⟩ _ l).2]
  refine congrArg _ (congrArg (fun z => ix2 z l) (Fin.ext ?_))
  show 512 * pt6Of (ix2 a l) + a.val % 512 = a.val
  omega

end Cert.OprojIdeal.Result

end
-- ==== Proof.lean ====
/-
  The proof of `Cert.Claim`: each call's frames are the generated ones, each reference's frame follows from its run, and each
  call's arrays are its reference's results by the theorem of its own module.
-/
module

public import proofs.«01_k».proof.Defs
public import proofs.«01_k».proof.Proof.Gen.Ffn.Frame
public import proofs.«01_k».proof.Proof.FfnValue
public import proofs.«01_k».proof.Proof.Gen.FfnRefIdeal.Run
public import proofs.«01_k».proof.Proof.Gen.Conv.Frame
public import proofs.«01_k».proof.Proof.ConvValue
public import proofs.«01_k».proof.Proof.Gen.ConvRefIdeal.Run
public import proofs.«01_k».proof.Proof.Gen.Qlat.Frame
public import proofs.«01_k».proof.Proof.QlatValue
public import proofs.«01_k».proof.Proof.Gen.QlatRefIdeal.Run
public import proofs.«01_k».proof.Proof.Gen.Idx.Frame
public import proofs.«01_k».proof.Proof.IdxValue
public import proofs.«01_k».proof.Proof.Gen.IdxRefIdeal.Run
public import proofs.«01_k».proof.Proof.Gen.Merge.Frame
public import proofs.«01_k».proof.Proof.MergeValue
public import proofs.«01_k».proof.Proof.Gen.MergeRefIdeal.Run
public import proofs.«01_k».proof.Proof.Gen.Oproj.Frame
public import proofs.«01_k».proof.Proof.OprojValue
public import proofs.«01_k».proof.Proof.Gen.OprojRefIdeal.Run
public import Idealize.ShloMosaic.Adequacy
public import Idealize.ShloMosaic.Init
public import Idealize.ShloMosaic.Lib.Quiescent

@[expose] public section

noncomputable section

namespace Cert.Proof

open Idealize.ShloMosaic Idealize.SL.Sem

/-- The reference of the feed-forward call ends with its arguments unchanged and every counter at zero. -/
theorem quiescent_FfnRefIdeal : quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The feed-forward call and its reference compute the same array over the extended reals. -/
theorem algebraic_FfnIdeal_FfnRefIdeal : algebraic_FfnIdeal_FfnRefIdeal := by
  intro m ρ m' ρ' _ hagree
  refine ⟨_, Cert.FfnIdeal.Value.run (F := Ideal) m ρ, ?_⟩
  refine (θ_run Cert.FfnRefIdeal.defs _ _).mono (fun _ h c => ⟨(h c).1.trans ?_, (h c).2⟩) (Cert.FfnRefIdeal.Value.run (F := Ideal) m' ρ')
  · refine (Cert.FfnRefIdeal.Read.val_main_v68_eq (F := Ideal) m' c).trans ?_
    simp only [hagree c]
    exact (Cert.FfnIdeal.Result.array_eq m c).symm

/-- The reference of the convolution's call ends with its arguments unchanged and every counter at zero. -/
theorem quiescent_ConvRefIdeal : quiescent_ConvRefIdeal := fun m ρ _ =>
  (θ_run Cert.ConvRefIdeal.defs _ _).mono (fun r h => ⟨fun c => (h c).2.2, sem_eq_zero_of_no_sems (by decide) r.2⟩)
    (Cert.ConvRefIdeal.Value.run (F := Ideal) m ρ)

/-- The convolution's call and its reference compute the same arrays over the extended reals. -/
theorem algebraic_ConvIdeal_ConvRefIdeal : algebraic_ConvIdeal_ConvRefIdeal := by
  intro m ρ m' ρ' _ hagree
  refine ⟨_, _, Cert.ConvIdeal.Value.run (F := Ideal) m ρ, ?_⟩
  refine (θ_run Cert.ConvRefIdeal.defs _ _).mono (fun _ h c => ⟨(h c).1.trans ?_, (h c).2.1.trans ?_, (h c).2.2⟩) (Cert.ConvRefIdeal.Value.run (F := Ideal) m' ρ')
  · refine (Cert.ConvRefIdeal.Read.val_main_v29_eq ..).trans ?_
    simp only [hagree c]
    exact (Cert.ConvIdeal.Result.array6_eq m c).symm
  · refine (Cert.ConvRefIdeal.Read.val_main_v30_eq ..).trans ?_
    simp only [hagree c]
    exact (Cert.ConvIdeal.Result.array7_eq m c).symm

/-- The reference of the query projection's call ends with its arguments unchanged and every counter at zero. -/
theorem quiescent_QlatRefIdeal : quiescent_QlatRefIdeal := fun m ρ _ =>
  (θ_run Cert.QlatRefIdeal.defs _ _).mono (fun r h => ⟨fun c => (h c).2.2, sem_eq_zero_of_no_sems (by decide) r.2⟩)
    (Cert.QlatRefIdeal.Value.run (F := Ideal) m ρ)

/-- The query projection's call and its reference compute the same arrays over the extended reals. -/
theorem algebraic_QlatIdeal_QlatRefIdeal : algebraic_QlatIdeal_QlatRefIdeal := by
  intro m ρ m' ρ' _ hagree
  refine ⟨_, _, Cert.QlatIdeal.Value.run (F := Ideal) m ρ, ?_⟩
  refine (θ_run Cert.QlatRefIdeal.defs _ _).mono (fun _ h c => ⟨(h c).1.trans ?_, (h c).2.1.trans ?_, (h c).2.2⟩) (Cert.QlatRefIdeal.Value.run (F := Ideal) m' ρ')
  · refine (Cert.QlatRefIdeal.Read.val_main_v7_eq ..).trans ?_
    simp only [hagree c]
    exact (Cert.QlatIdeal.Result.array3_eq m c).symm
  · refine (Cert.QlatRefIdeal.Read.val_main_v8_eq ..).trans ?_
    simp only [hagree c]
    exact (Cert.QlatIdeal.Result.array4_eq m c).symm

/-- The reference of the indexer's projection's call ends with its arguments unchanged and every counter at zero. -/
theorem quiescent_IdxRefIdeal : quiescent_IdxRefIdeal := fun m ρ _ =>
  (θ_run Cert.IdxRefIdeal.defs _ _).mono (fun r h => ⟨fun c => (h c).2.2.2.2.2, sem_eq_zero_of_no_sems (by decide) r.2⟩)
    (Cert.IdxRefIdeal.Value.run (F := Ideal) m ρ)

/-- The indexer's projection's call and its reference compute the same arrays over the extended reals. -/
theorem algebraic_IdxIdeal_IdxRefIdeal : algebraic_IdxIdeal_IdxRefIdeal := by
  intro m ρ m' ρ' _ hagree
  refine ⟨_, _, _, _, _, Cert.IdxIdeal.Result.run m ρ, ?_⟩
  refine (θ_run Cert.IdxRefIdeal.defs _ _).mono (fun _ h c => ⟨(h c).1.trans ?_, (h c).2.1.trans ?_, (h c).2.2.1.trans ?_, (h c).2.2.2.1.trans ?_, (h c).2.2.2.2.1.trans ?_, (h c).2.2.2.2.2⟩) (Cert.IdxRefIdeal.Value.run (F := Ideal) m' ρ')
  · refine (Cert.IdxRefIdeal.Read.val_main_v15_eq ..).trans ?_
    simp only [hagree c]
  · refine (Cert.IdxRefIdeal.Read.val_main_v29_eq ..).trans ?_
    simp only [hagree c]
  · refine (Cert.IdxRefIdeal.Read.val_main_v30_eq ..).trans ?_
    simp only [hagree c]
  · refine (Cert.IdxRefIdeal.Read.val_main_v32_eq ..).trans ?_
    simp only [hagree c]
  · refine (Cert.IdxRefIdeal.Read.val_main_v35_eq ..).trans ?_
    simp only [hagree c]

/-- The reference of the merge's call ends with its arguments unchanged and every counter at zero. -/
theorem quiescent_MergeRefIdeal : quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- The merge's call and its reference compute the same array over the extended reals. -/
theorem algebraic_MergeIdeal_MergeRefIdeal : algebraic_MergeIdeal_MergeRefIdeal := by
  intro m ρ m' ρ' _ hagree
  refine ⟨_, Cert.MergeIdeal.Value.run (F := Ideal) m ρ, ?_⟩
  refine (θ_run Cert.MergeRefIdeal.defs _ _).mono (fun _ h c => ⟨(h c).1.trans ?_, (h c).2⟩) (Cert.MergeRefIdeal.Value.run (F := Ideal) m' ρ')
  · refine (Cert.MergeRefIdeal.Read.val_main_v17_eq ..).trans ?_
    simp only [hagree c]
    exact (Cert.MergeIdeal.Result.array_eq m c).symm

/-- The reference of the output projection's call ends with its arguments unchanged and every counter at zero. -/
theorem quiescent_OprojRefIdeal : quiescent_OprojRefIdeal := fun m ρ _ =>
  (θ_run Cert.OprojRefIdeal.defs _ _).mono (fun r h => ⟨fun c => (h c).2.2, sem_eq_zero_of_no_sems (by decide) r.2⟩)
    (Cert.OprojRefIdeal.Value.run (F := Ideal) m ρ)

/-- The output projection's call and its reference compute the same arrays over the extended reals. -/
theorem algebraic_OprojIdeal_OprojRefIdeal : algebraic_OprojIdeal_OprojRefIdeal := by
  intro m ρ m' ρ' _ hagree
  refine ⟨_, _, Cert.OprojIdeal.Value.run (F := Ideal) m ρ, ?_⟩
  refine (θ_run Cert.OprojRefIdeal.defs _ _).mono (fun _ h c => ⟨(h c).1.trans ?_, (h c).2.1.trans ?_, (h c).2.2⟩) (Cert.OprojRefIdeal.Value.run (F := Ideal) m' ρ')
  · refine (Cert.OprojRefIdeal.Read.val_main_v28_eq ..).trans ?_
    simp only [hagree c]
    exact (Cert.OprojIdeal.Result.array5_eq m c).symm
  · refine (Cert.OprojRefIdeal.Read.val_main_v29_eq ..).trans ?_
    simp only [hagree c]
    exact (Cert.OprojIdeal.Result.array6_eq m c).symm

/-- The whole claim. -/
theorem claim : Cert.Claim :=
  ⟨Cert.Ffn.Gen.facts, Cert.FfnIdeal.Gen.facts, Cert.FfnRefIdeal.Gen.facts, Cert.Conv.Gen.facts, Cert.ConvIdeal.Gen.facts, Cert.ConvRefIdeal.Gen.facts, Cert.Qlat.Gen.facts, Cert.QlatIdeal.Gen.facts, Cert.QlatRefIdeal.Gen.facts, Cert.Idx.Gen.facts, Cert.IdxIdeal.Gen.facts, Cert.IdxRefIdeal.Gen.facts, Cert.Merge.Gen.facts, Cert.MergeIdeal.Gen.facts, Cert.MergeRefIdeal.Gen.facts, Cert.Oproj.Gen.facts, Cert.OprojIdeal.Gen.facts, Cert.OprojRefIdeal.Gen.facts,
    fun m ρ _ => Cert.Ffn.Gen.frame m ρ, fun m ρ _ => Cert.FfnIdeal.Gen.frame m ρ, quiescent_FfnRefIdeal,
    fun m ρ _ => Cert.Conv.Gen.frame m ρ, fun m ρ _ => Cert.ConvIdeal.Gen.frame m ρ, quiescent_ConvRefIdeal,
    fun m ρ _ => Cert.Qlat.Gen.frame m ρ, fun m ρ _ => Cert.QlatIdeal.Gen.frame m ρ, quiescent_QlatRefIdeal,
    fun m ρ _ => Cert.Idx.Gen.frame m ρ, fun m ρ _ => Cert.IdxIdeal.Gen.frame m ρ, quiescent_IdxRefIdeal,
    fun m ρ _ => Cert.Merge.Gen.frame m ρ, fun m ρ _ => Cert.MergeIdeal.Gen.frame m ρ, quiescent_MergeRefIdeal,
    fun m ρ _ => Cert.Oproj.Gen.frame m ρ, fun m ρ _ => Cert.OprojIdeal.Gen.frame m ρ, quiescent_OprojRefIdeal,
    (trivial : preserves_Ffn_FfnIdeal), algebraic_FfnIdeal_FfnRefIdeal,
    (trivial : preserves_Conv_ConvIdeal), algebraic_ConvIdeal_ConvRefIdeal,
    (trivial : preserves_Qlat_QlatIdeal), algebraic_QlatIdeal_QlatRefIdeal,
    (trivial : preserves_Idx_IdxIdeal), algebraic_IdxIdeal_IdxRefIdeal,
    (trivial : preserves_Merge_MergeIdeal), algebraic_MergeIdeal_MergeRefIdeal,
    (trivial : preserves_Oproj_OprojIdeal), algebraic_OprojIdeal_OprojRefIdeal⟩

end Cert.Proof

end
